-- ==== Defs.lean ====
def Pre_Kernel (m : (ℓ : Loc Cert.Kernel.nD Cert.Kernel.τ Cert.Kernel.sig) → Buf (Elt Bits) ℓ) : Prop :=
  True

def Pre_Kernel_one_nearest [hPre_one_nearest : Cert.Pre_one_nearest.Facts] (m : (ℓ : Loc Cert.Kernel.nD Cert.Kernel.τ Cert.Kernel.sig) → Buf (Elt Bits) ℓ) : Prop :=
  ∀ c : Dev Cert.Kernel.nD,
    (Cert.Pre_one_nearest.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_one_nearest : Cert.Pre_one_nearest.Facts] (m : (ℓ : Loc Cert.KernelIdeal.nD Cert.KernelIdeal.τ Cert.KernelIdeal.sig) → Buf (Elt Ideal) ℓ) : Prop :=
  ∀ c : Dev Cert.KernelIdeal.nD,
    (Cert.Pre_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_nearest [hPre_one_nearest : Cert.Pre_one_nearest.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel_pre_one_nearest [hKernel : Cert.Kernel.Facts] [hPre_one_nearest : Cert.Pre_one_nearest.Facts] : Prop :=
  ∀ (m : (ℓ : Loc Cert.Kernel.nD Cert.Kernel.τ Cert.Kernel.sig) → Buf (Elt Bits) ℓ) (g : Dev Cert.Kernel.nD → PrngReg), Pre_Kernel_one_nearest m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_one_nearest : Cert.Pre_one_nearest.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_one_nearest [hReferenceIdeal : Cert.ReferenceIdeal.Facts] [hPre_one_nearest : Cert.Pre_one_nearest.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_nearest m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_one_nearest : Cert.Pre_one_nearest.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_one_nearest : Cert.Pre_one_nearest.Facts),
    quiescent_Kernel (hKernel := hKernel)
    ∧ quiescent_Kernel_pre_one_nearest (hKernel := hKernel) (hPre_one_nearest := hPre_one_nearest)
    ∧ quiescent_KernelIdeal (hKernelIdeal := hKernelIdeal) (hPre_one_nearest := hPre_one_nearest)
    ∧ quiescent_ReferenceIdeal (hReferenceIdeal := hReferenceIdeal)
    ∧ quiescent_ReferenceIdeal_pre_one_nearest (hReferenceIdeal := hReferenceIdeal) (hPre_one_nearest := hPre_one_nearest)
    ∧ preserves_Kernel_KernelIdeal
    ∧ algebraic_KernelIdeal_ReferenceIdeal (hKernelIdeal := hKernelIdeal) (hReferenceIdeal := hReferenceIdeal) (hPre_one_nearest := hPre_one_nearest)
-- ==== Pre_one_nearest.lean ====
abbrev S16x256x4096 : Shape := ⟨3, ![16, 256, 4096]⟩
abbrev S64x256x3 : Shape := ⟨3, ![64, 256, 3]⟩
abbrev S1024x64 : Shape := ⟨2, ![1024, 64]⟩
abbrev S_ : Shape := ⟨0, ![]⟩
abbrev S16x256x4098 : Shape := ⟨3, ![16, 256, 4098]⟩
abbrev S64x256x1 : Shape := ⟨3, ![64, 256, 1]⟩
abbrev S64x256 : Shape := ⟨2, ![64, 256]⟩
abbrev S16x256x2048 : Shape := ⟨3, ![16, 256, 2048]⟩
abbrev S16x2048x64 : Shape := ⟨3, ![16, 2048, 64]⟩
abbrev S16x64x2048 : Shape := ⟨3, ![16, 64, 2048]⟩
abbrev S32768x64 : Shape := ⟨2, ![32768, 64]⟩
abbrev S32768 : Shape := ⟨1, ![32768]⟩
abbrev S32768x1 : Shape := ⟨2, ![32768, 1]⟩
abbrev S1024 : Shape := ⟨1, ![1024]⟩
abbrev S1024x1 : Shape := ⟨2, ![1024, 1]⟩
abbrev S64x1024 : Shape := ⟨2, ![64, 1024]⟩
abbrev S32768x1024 : Shape := ⟨2, ![32768, 1024]⟩

class Facts : Prop where
  pads_S16x256x4096_S16x256x4098_000_000_110 : S16x256x4096.Pads (![0, 0, 1] : Fin 3 → Nat) ![0, 0, 1] ![0, 0, 0] S16x256x4098
  h_S_ : 0 < S_.numel
  slices_S64x256x3_S64x256x1_0_0_0 : S64x256x3.Slices ![0, 0, 0] S64x256x1
  shapeCasts_S64x256x1_S64x256 : S64x256x1.ShapeCasts S64x256
  slicesBy_S16x256x4098_S16x256x2048_0s1_0s1_0s2 : S16x256x4098.SlicesBy (![0, 0, 0] : Fin 3 → Nat) ![1, 1, 2] S16x256x2048
  transposes_S16x2048x64_S16x64x2048_0_2_1 : S16x2048x64.Transposes [0, 2, 1] S16x64x2048
  slices_S64x256x3_S64x256x1_0_0_1 : S64x256x3.Slices ![0, 0, 1] S64x256x1
  slicesBy_S16x256x4098_S16x256x2048_0s1_0s1_1s2 : S16x256x4098.SlicesBy (![0, 0, 1] : Fin 3 → Nat) ![1, 1, 2] S16x256x2048
  slices_S64x256x3_S64x256x1_0_0_2 : S64x256x3.Slices ![0, 0, 2] S64x256x1
  slicesBy_S16x256x4098_S16x256x2048_0s1_0s1_2s2 : S16x256x4098.SlicesBy (![0, 0, 2] : Fin 3 → Nat) ![1, 1, 2] S16x256x2048
  transposes_S16x64x2048_S16x2048x64_0_2_1 : S16x64x2048.Transposes [0, 2, 1] S16x2048x64
  shapeCasts_S16x2048x64_S32768x64 : S16x2048x64.ShapeCasts S32768x64
  reducesTo_S32768x64_S32768_d1 : S32768x64.ReducesTo [1] S32768
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x64_0_1 : S32768x1.BroadcastsInDim S32768x64 (![0, 1] : Fin 2 → Fin S32768x64.rank)
  reducesTo_S1024x64_S1024_d1 : S1024x64.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x64_0_1 : S1024x1.BroadcastsInDim S1024x64 (![0, 1] : Fin 2 → Fin S1024x64.rank)
  transposes_S1024x64_S64x1024_1_0 : S1024x64.Transposes [1, 0] S64x1024
  reducesTo_S32768x1024_S32768_d1 : S32768x1024.ReducesTo [1] S32768
  bcast_S32768x1_S32768x1024_0_1 : S32768x1.BroadcastsInDim S32768x1024 (![0, 1] : Fin 2 → Fin S32768x1024.rank)
  natLt_1_32 : 1 < 32
  bcast_S_S32768 : S_.BroadcastsInDim S32768 (![] : Fin 0 → Fin S32768.rank)
  bcast_S_S1024 : S_.BroadcastsInDim S1024 (![] : Fin 0 → Fin S1024.rank)
  reducesTo_S1024_S_d0 : S1024.ReducesTo [0] S_
  dot_S16x256x2048_S64x256_S16x2048x64_1_1_02_0_n_n_wf : DotDims.WF S16x256x2048 S64x256 S16x2048x64 [1] [1] [0, 2] [0] [] []
  dot_S32768x64_S64x1024_S32768x1024_1_0_0_1_n_n_wf : DotDims.WF S32768x64 S64x1024 S32768x1024 [1] [0] [0] [1] [] []

variable [Facts]

def dot_S16x256x2048_S64x256_S16x2048x64_1_1_02_0_n_n : DotDims S16x256x2048 S64x256 S16x2048x64 where
  lhsContracting := [1]
  rhsContracting := [1]
  lhsNonContracting := [0, 2]
  rhsNonContracting := [0]
  lhsBatch := []
  rhsBatch := []
  wf := dot_S16x256x2048_S64x256_S16x2048x64_1_1_02_0_n_n_wf
def dot_S32768x64_S64x1024_S32768x1024_1_0_0_1_n_n : DotDims S32768x64 S64x1024 S32768x1024 where
  lhsContracting := [1]
  rhsContracting := [0]
  lhsNonContracting := [0]
  rhsNonContracting := [1]
  lhsBatch := []
  rhsBatch := []
  wf := dot_S32768x64_S64x1024_S32768x1024_1_0_0_1_n_n_wf
def fn_pad {F : FTy → Type} [FloatOps F] (arg0 : FVec F S16x256x4096 .f32) (arg1 : IVec S_ 32) : FVec F S16x256x4098 .f32 :=
  let v0 : FVec F S_ .f32 := sitofp .f32 arg1
  let v1 : FVec F S16x256x4098 .f32 := (fun x v => pad S16x256x4098 ![0, 0, 1] ![0, 0, 1] ![0, 0, 0] x v pads_S16x256x4096_S16x256x4098_000_000_110 h_S_) arg0 v0
  v1

def fn_part2 {F : FTy → Type} [FloatOps F] (main_arg2 : FVec F S1024x64 .f32) (main_v41 : IVec S32768x1024 1) : IVec S32768 1 :=
  let main_v42 : IVec S32768x1024 32 := (extui 32 · natLt_1_32) main_v41
  let main_c_4 : IVec S_ 32 := constantI S_ 32 0#32
  let main_v43 : IVec S32768 32 := (fun x v => Host.reduce IntOp.addi x v reducesTo_S32768x1024_S32768_d1 h_S_) main_v42 main_c_4
  let main_c_5 : IVec S_ 32 := constantI S_ 32 1#32
  let main_v44 : IVec S32768 32 := broadcastInDim S32768 ![] bcast_S_S32768 main_c_5
  let main_v45 : IVec S32768 1 := cmpi .eq main_v43 main_v44
  let main_v46 : FVec F S1024x64 .f32 := mulf main_arg2 main_arg2
  let main_cst_6 : FVec F S_ .f32 := constant S_ .f32 0x00000000#32
  let main_v47 : FVec F S1024 .f32 := (fun x v => Host.reduceAdd x v reducesTo_S1024x64_S1024_d1 h_S_) main_v46 main_cst_6
  let main_v48 : FVec F S1024 .f32 := Host.sqrt main_v47
  let main_cst_7 : FVec F S_ .f32 := constant S_ .f32 0x2B8CBCCC#32
  let main_v49 : FVec F S1024 .f32 := broadcastInDim S1024 ![] bcast_S_S1024 main_cst_7
  let main_v50 : IVec S1024 1 := cmpf .oge main_v48 main_v49
  let main_cst_8 : FVec F S_ .f32 := constant S_ .f32 0x7F800000#32
  let main_v51 : FVec F S1024 .f32 := broadcastInDim S1024 ![] bcast_S_S1024 main_cst_8
  let main_v52 : IVec S1024 1 := cmpf .olt main_v48 main_v51
  let main_v53 : IVec S1024 1 := andi main_v50 main_v52
  let main_c_9 : IVec S_ 1 := constantI S_ 1 1#1
  let main_v54 : IVec S_ 1 := (fun x v => Host.reduce IntOp.andi x v reducesTo_S1024_S_d0 h_S_) main_v53 main_c_9
  let main_v55 : IVec S32768 1 := broadcastInDim S32768 ![] bcast_S_S32768 main_v54
  let main_v56 : IVec S32768 1 := andi main_v45 main_v55
  main_v56

def fn_part1 {F : FTy → Type} [FloatOps F] (main_arg2 : FVec F S1024x64 .f32) (main_v19 : FVec F S32768x64 .f32) (main_v21 : FVec F S32768 .f32) : IVec S32768 1 :=
  let main_v22 : FVec F S32768x1 .f32 := broadcastInDim S32768x1 ![0] bcast_S32768_S32768x1_0 main_v21
  let main_v23 : FVec F S32768x1 .f32 := Host.sqrt main_v22
  let main_cst_0 : FVec F S_ .f32 := constant S_ .f32 0x2B8CBCCC#32
  let main_v24 : FVec F S32768x1 .f32 := broadcastInDim S32768x1 ![] bcast_S_S32768x1 main_cst_0
  let main_v25 : FVec F S32768x1 .f32 := maximumf main_v23 main_v24
  let main_v26 : FVec F S32768x64 .f32 := broadcastInDim S32768x64 ![0, 1] bcast_S32768x1_S32768x64_0_1 main_v25
  let main_v27 : FVec F S32768x64 .f32 := Host.divf main_v19 main_v26
  let main_v28 : FVec F S1024x64 .f32 := mulf main_arg2 main_arg2
  let main_cst_1 : FVec F S_ .f32 := constant S_ .f32 0x00000000#32
  let main_v29 : FVec F S1024 .f32 := (fun x v => Host.reduceAdd x v reducesTo_S1024x64_S1024_d1 h_S_) main_v28 main_cst_1
  let main_v30 : FVec F S1024x1 .f32 := broadcastInDim S1024x1 ![0] bcast_S1024_S1024x1_0 main_v29
  let main_v31 : FVec F S1024x1 .f32 := Host.sqrt main_v30
  let main_cst_2 : FVec F S_ .f32 := constant S_ .f32 0x2B8CBCCC#32
  let main_v32 : FVec F S1024x1 .f32 := broadcastInDim S1024x1 ![] bcast_S_S1024x1 main_cst_2
  let main_v33 : FVec F S1024x1 .f32 := maximumf main_v31 main_v32
  let main_v34 : FVec F S1024x64 .f32 := broadcastInDim S1024x64 ![0, 1] bcast_S1024x1_S1024x64_0_1 main_v33
  let main_v35 : FVec F S1024x64 .f32 := Host.divf main_arg2 main_v34
  let main_v36 : FVec F S64x1024 .f32 := (transpose S64x1024 [1, 0] · transposes_S1024x64_S64x1024_1_0) main_v35
  let main_v37 : FVec F S32768x1024 .f32 := (fun l r => Host.dotGeneral dot_S32768x64_S64x1024_S32768x1024_1_0_0_1_n_n none l r) main_v27 main_v36
  let main_cst_3 : FVec F S_ .f32 := constant S_ .f32 0xFF800000#32
  let main_v38 : FVec F S32768 .f32 := (fun x v => Host.reduce FloatOps.maximumf x v reducesTo_S32768x1024_S32768_d1 h_S_) main_v37 main_cst_3
  let main_v39 : FVec F S32768x1 .f32 := broadcastInDim S32768x1 ![0] bcast_S32768_S32768x1_0 main_v38
  let main_v40 : FVec F S32768x1024 .f32 := broadcastInDim S32768x1024 ![0, 1] bcast_S32768x1_S32768x1024_0_1 main_v39
  let main_v41 : IVec S32768x1024 1 := cmpf .oeq main_v37 main_v40
  fn_part2 (F := F) main_arg2 main_v41

def fn {F : FTy → Type} [FloatOps F] (main_arg0 : FVec F S16x256x4096 .f32) (main_arg1 : FVec F S64x256x3 .f32) (main_arg2 : FVec F S1024x64 .f32) : IVec S32768 1 :=
  let main_c : IVec S_ 32 := constantI S_ 32 0#32
  let main_v0 : FVec F S16x256x4098 .f32 := fn_pad (F := F) main_arg0 main_c
  let main_v1 : FVec F S64x256x1 .f32 := (extractStridedSlice S64x256x1 ![0, 0, 0] · slices_S64x256x3_S64x256x1_0_0_0) main_arg1
  let main_v2 : FVec F S64x256 .f32 := shapeCast S64x256 main_v1 shapeCasts_S64x256x1_S64x256
  let main_v3 : FVec F S16x256x2048 .f32 := (Host.slice S16x256x2048 ![0, 0, 0] ![1, 1, 2] · slicesBy_S16x256x4098_S16x256x2048_0s1_0s1_0s2) main_v0
  let main_v4 : FVec F S16x2048x64 .f32 := (fun l r => Host.dotGeneral dot_S16x256x2048_S64x256_S16x2048x64_1_1_02_0_n_n none l r) main_v3 main_v2
  let main_v5 : FVec F S16x64x2048 .f32 := (transpose S16x64x2048 [0, 2, 1] · transposes_S16x2048x64_S16x64x2048_0_2_1) main_v4
  let main_v6 : FVec F S64x256x1 .f32 := (extractStridedSlice S64x256x1 ![0, 0, 1] · slices_S64x256x3_S64x256x1_0_0_1) main_arg1
  let main_v7 : FVec F S64x256 .f32 := shapeCast S64x256 main_v6 shapeCasts_S64x256x1_S64x256
  let main_v8 : FVec F S16x256x2048 .f32 := (Host.slice S16x256x2048 ![0, 0, 1] ![1, 1, 2] · slicesBy_S16x256x4098_S16x256x2048_0s1_0s1_1s2) main_v0
  let main_v9 : FVec F S16x2048x64 .f32 := (fun l r => Host.dotGeneral dot_S16x256x2048_S64x256_S16x2048x64_1_1_02_0_n_n none l r) main_v8 main_v7
  let main_v10 : FVec F S16x64x2048 .f32 := (transpose S16x64x2048 [0, 2, 1] · transposes_S16x2048x64_S16x64x2048_0_2_1) main_v9
  let main_v11 : FVec F S64x256x1 .f32 := (extractStridedSlice S64x256x1 ![0, 0, 2] · slices_S64x256x3_S64x256x1_0_0_2) main_arg1
  let main_v12 : FVec F S64x256 .f32 := shapeCast S64x256 main_v11 shapeCasts_S64x256x1_S64x256
  let main_v13 : FVec F S16x256x2048 .f32 := (Host.slice S16x256x2048 ![0, 0, 2] ![1, 1, 2] · slicesBy_S16x256x4098_S16x256x2048_0s1_0s1_2s2) main_v0
  let main_v14 : FVec F S16x2048x64 .f32 := (fun l r => Host.dotGeneral dot_S16x256x2048_S64x256_S16x2048x64_1_1_02_0_n_n none l r) main_v13 main_v12
  let main_v15 : FVec F S16x64x2048 .f32 := (transpose S16x64x2048 [0, 2, 1] · transposes_S16x2048x64_S16x64x2048_0_2_1) main_v14
  let main_v16 : FVec F S16x64x2048 .f32 := addf main_v5 main_v10
  let main_v17 : FVec F S16x64x2048 .f32 := addf main_v16 main_v15
  let main_v18 : FVec F S16x2048x64 .f32 := (transpose S16x2048x64 [0, 2, 1] · transposes_S16x64x2048_S16x2048x64_0_2_1) main_v17
  let main_v19 : FVec F S32768x64 .f32 := shapeCast S32768x64 main_v18 shapeCasts_S16x2048x64_S32768x64
  let main_v20 : FVec F S32768x64 .f32 := mulf main_v19 main_v19
  let main_cst : FVec F S_ .f32 := constant S_ .f32 0x00000000#32
  let main_v21 : FVec F S32768 .f32 := (fun x v => Host.reduceAdd x v reducesTo_S32768x64_S32768_d1 h_S_) main_v20 main_cst
  fn_part1 (F := F) main_arg2 main_v19 main_v21
-- ==== Kernel.lean ====
abbrev S16x256x4096 : Shape := ⟨3, ![16, 256, 4096]⟩
abbrev S64x256x3 : Shape := ⟨3, ![64, 256, 3]⟩
abbrev S1024x64 : Shape := ⟨2, ![1024, 64]⟩
abbrev S64x256x1 : Shape := ⟨3, ![64, 256, 1]⟩
abbrev S64x256 : Shape := ⟨2, ![64, 256]⟩
abbrev S16x1x2048 : Shape := ⟨3, ![16, 1, 2048]⟩
abbrev S1x256x4096 : Shape := ⟨3, ![1, 256, 4096]⟩
abbrev S1x1x2048 : Shape := ⟨3, ![1, 1, 2048]⟩
abbrev S4096x64 : Shape := ⟨2, ![4096, 64]⟩
abbrev S256x4096 : Shape := ⟨2, ![256, 4096]⟩
abbrev S64x4096 : Shape := ⟨2, ![64, 4096]⟩
abbrev S4096 : Shape := ⟨1, ![4096]⟩
abbrev S1x4096 : Shape := ⟨2, ![1, 4096]⟩
abbrev S2048x64 : Shape := ⟨2, ![2048, 64]⟩
abbrev S1024 : Shape := ⟨1, ![1024]⟩
abbrev S1024x1 : Shape := ⟨2, ![1024, 1]⟩
abbrev S1024x2048 : Shape := ⟨2, ![1024, 2048]⟩
abbrev S2048 : Shape := ⟨1, ![2048]⟩
abbrev S1x2048 : Shape := ⟨2, ![1, 2048]⟩
abbrev S16x2048 : Shape := ⟨2, ![16, 2048]⟩

abbrev nBuf : Space → Nat
  | .hbm => 14
  | .vmem => 9
  | .smem => 0
  | _ => 0

abbrev bufTy : (tb : Table) → Fin (tcTables nBuf tb) → BufTy
  | .hbm, ⟨0, _⟩ => ⟨S16x256x4096, .f32⟩
  | .hbm, ⟨1, _⟩ => ⟨S64x256x3, .f32⟩
  | .hbm, ⟨2, _⟩ => ⟨S1024x64, .f32⟩
  | .hbm, ⟨3, _⟩ => ⟨S64x256x1, .f32⟩
  | .hbm, ⟨4, _⟩ => ⟨S64x256, .f32⟩
  | .hbm, ⟨5, _⟩ => ⟨S64x256, .bf16⟩
  | .hbm, ⟨6, _⟩ => ⟨S64x256x1, .f32⟩
  | .hbm, ⟨7, _⟩ => ⟨S64x256, .f32⟩
  | .hbm, ⟨8, _⟩ => ⟨S64x256, .bf16⟩
  | .hbm, ⟨9, _⟩ => ⟨S64x256x1, .f32⟩
  | .hbm, ⟨10, _⟩ => ⟨S64x256, .f32⟩
  | .hbm, ⟨11, _⟩ => ⟨S64x256, .bf16⟩
  | .hbm, ⟨12, _⟩ => ⟨S16x1x2048, .i32⟩
  | .hbm, ⟨13, _⟩ => ⟨S16x2048, .i32⟩
  | .local _ .vmem, ⟨0, _⟩ => ⟨S1x256x4096, .f32⟩
  | .local _ .vmem, ⟨1, _⟩ => ⟨S1x256x4096, .f32⟩
  | .local _ .vmem, ⟨2, _⟩ => ⟨S64x256, .bf16⟩
  | .local _ .vmem, ⟨3, _⟩ => ⟨S64x256, .bf16⟩
  | .local _ .vmem, ⟨4, _⟩ => ⟨S64x256, .bf16⟩
  | .local _ .vmem, ⟨5, _⟩ => ⟨S1024x64, .f32⟩
  | .local _ .vmem, ⟨6, _⟩ => ⟨S1x1x2048, .i32⟩
  | .local _ .vmem, ⟨7, _⟩ => ⟨S1x1x2048, .i32⟩
  | .local _ .vmem, ⟨8, _⟩ => ⟨S4096x64, .f32⟩
  | _, _ => ⟨S16x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x256x4096 : Shape := ⟨3, ![16, 256, 4096]⟩
abbrev S64x256x3 : Shape := ⟨3, ![64, 256, 3]⟩
abbrev S1024x64 : Shape := ⟨2, ![1024, 64]⟩
abbrev S_ : Shape := ⟨0, ![]⟩
abbrev S16x256x4098 : Shape := ⟨3, ![16, 256, 4098]⟩
abbrev S64x256x1 : Shape := ⟨3, ![64, 256, 1]⟩
abbrev S64x256 : Shape := ⟨2, ![64, 256]⟩
abbrev S16x256x2048 : Shape := ⟨3, ![16, 256, 2048]⟩
abbrev S16x2048x64 : Shape := ⟨3, ![16, 2048, 64]⟩
abbrev S16x64x2048 : Shape := ⟨3, ![16, 64, 2048]⟩
abbrev S32768x64 : Shape := ⟨2, ![32768, 64]⟩
abbrev S32768 : Shape := ⟨1, ![32768]⟩
abbrev S32768x1 : Shape := ⟨2, ![32768, 1]⟩
abbrev S1024 : Shape := ⟨1, ![1024]⟩
abbrev S1024x1 : Shape := ⟨2, ![1024, 1]⟩
abbrev S64x1024 : Shape := ⟨2, ![64, 1024]⟩
abbrev S32768x1024 : Shape := ⟨2, ![32768, 1024]⟩
abbrev S1x1024 : Shape := ⟨2, ![1, 1024]⟩
abbrev S16x2048 : Shape := ⟨2, ![16, 2048]⟩

abbrev nBuf : Space → Nat
  | .hbm => 70
  | .vmem => 0
  | .smem => 0
  | _ => 0

abbrev bufTy : (tb : Table) → Fin (tcTables nBuf tb) → BufTy
  | .hbm, ⟨0, _⟩ => ⟨S16x256x4096, .f32⟩
  | .hbm, ⟨1, _⟩ => ⟨S64x256x3, .f32⟩
  | .hbm, ⟨2, _⟩ => ⟨S1024x64, .f32⟩
  | .hbm, ⟨3, _⟩ => ⟨S_, .i32⟩
  | .hbm, ⟨4, _⟩ => ⟨S_, .f32⟩
  | .hbm, ⟨5, _⟩ => ⟨S16x256x4098, .f32⟩
  | .hbm, ⟨6, _⟩ => ⟨S64x256x1, .f32⟩
  | .hbm, ⟨7, _⟩ => ⟨S64x256, .f32⟩
  | .hbm, ⟨8, _⟩ => ⟨S16x256x2048, .f32⟩
  | .hbm, ⟨9, _⟩ => ⟨S16x2048x64, .f32⟩
  | .hbm, ⟨10, _⟩ => ⟨S16x64x2048, .f32⟩
  | .hbm, ⟨11, _⟩ => ⟨S64x256x1, .f32⟩
  | .hbm, ⟨12, _⟩ => ⟨S64x256, .f32⟩
  | .hbm, ⟨13, _⟩ => ⟨S16x256x2048, .f32⟩
  | .hbm, ⟨14, _⟩ => ⟨S16x2048x64, .f32⟩
  | .hbm, ⟨15, _⟩ => ⟨S16x64x2048, .f32⟩
  | .hbm, ⟨16, _⟩ => ⟨S64x256x1, .f32⟩
  | .hbm, ⟨17, _⟩ => ⟨S64x256, .f32⟩
  | .hbm, ⟨18, _⟩ => ⟨S16x256x2048, .f32⟩
  | .hbm, ⟨19, _⟩ => ⟨S16x2048x64, .f32⟩
  | .hbm, ⟨20, _⟩ => ⟨S16x64x2048, .f32⟩
  | .hbm, ⟨21, _⟩ => ⟨S16x64x2048, .f32⟩
  | .hbm, ⟨22, _⟩ => ⟨S16x64x2048, .f32⟩
  | .hbm, ⟨23, _⟩ => ⟨S16x2048x64, .f32⟩
  | .hbm, ⟨24, _⟩ => ⟨S32768x64, .f32⟩
  | .hbm, ⟨25, _⟩ => ⟨S32768x64, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x64, .f32⟩
  | .hbm, ⟨34, _⟩ => ⟨S32768x64, .f32⟩
  | .hbm, ⟨35, _⟩ => ⟨S1024x64, .f32⟩
  | .hbm, ⟨36, _⟩ => ⟨S_, .f32⟩
  | .hbm, ⟨37, _⟩ => ⟨S1024, .f32⟩
  | .hbm, ⟨38, _⟩ => ⟨S1024x1, .f32⟩
  | .hbm, ⟨39, _⟩ => ⟨S1024x1, .f32⟩
  | .hbm, ⟨40, _⟩ => ⟨S_, .f32⟩
  | .hbm, ⟨41, _⟩ => ⟨S1024x1, .f32⟩
  | .hbm, ⟨42, _⟩ => ⟨S1024x1, .f32⟩
  | .hbm, ⟨43, _⟩ => ⟨S1024x64, .f32⟩
  | .hbm, ⟨44, _⟩ => ⟨S1024x64, .f32⟩
  | .hbm, ⟨45, _⟩ => ⟨S32768x64, .f32⟩
  | .hbm, ⟨46, _⟩ => ⟨S_, .f32⟩
  | .hbm, ⟨47, _⟩ => ⟨S32768, .f32⟩
  | .hbm, ⟨48, _⟩ => ⟨S32768x1, .f32⟩
  | .hbm, ⟨49, _⟩ => ⟨S64x1024, .f32⟩
  | .hbm, ⟨50, _⟩ => ⟨S32768x1024, .f32⟩
  | .hbm, ⟨51, _⟩ => ⟨S_, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S1024x64, .f32⟩
  | .hbm, ⟨57, _⟩ => ⟨S_, .f32⟩
  | .hbm, ⟨58, _⟩ => ⟨S1024, .f32⟩
  | .hbm, ⟨59, _⟩ => ⟨S1024x1, .f32⟩
  | .hbm, ⟨60, _⟩ => ⟨S1x1024, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S32768x1024, .i32⟩
  | .hbm, ⟨65, _⟩ => ⟨S_, .f32⟩
  | .hbm, ⟨66, _⟩ => ⟨S_, .i32⟩
  | .hbm, ⟨67, _⟩ => ⟨S32768, .f32⟩
  | .hbm, ⟨68, _⟩ => ⟨S32768, .i32⟩
  | .hbm, ⟨69, _⟩ => ⟨S16x2048, .i32⟩
  | _, _ => ⟨S16x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_5 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_call1_v0 : Ref sig .tc := ⟨.hbm, 64, rfl⟩
abbrev main_call1_cst : Ref sig .tc := ⟨.hbm, 65, rfl⟩
abbrev main_call1_c : Ref sig .tc := ⟨.hbm, 66, rfl⟩
abbrev main_call1_v1_0 : Ref sig .tc := ⟨.hbm, 67, rfl⟩
abbrev main_v52 : Ref sig .tc := ⟨.hbm, 68, rfl⟩
abbrev main_v53 : Ref sig .tc := ⟨.hbm, 69, rfl⟩

abbrev nD : Nat := 1
abbrev τ : Topo := Topo.v7x

variable {F : FTy → Type} [FloatOps F]
-- ==== Proof.RefTerm.lean ====
/- The reference as functions of its arguments, operation by operation: the convolution's responses, rows divided by
   their norms, the distances and the index. -/
module

public import proofs.«01_k».proof.Proof.Gen.ReferenceIdeal
public import Idealize.ShloMosaic.Lib.Claim

@[expose] public section

noncomputable section

namespace Cert.Proof.RefTerm

open Idealize.ShloMosaic Idealize.SL.Sem Cert.ReferenceIdeal Cert.ReferenceIdeal.Gen

variable {F : FTy → Type} [FloatOps F]

/-- The input with one zero column before and after. -/
def pads (x : Vec F S16x256x4096 .f32) : Vec F S16x256x4098 .f32 :=
  pad S16x256x4098 ![0, 0, 1] ![0, 0, 1] ![0, 0, 0] x (sitofp .f32 (constantI S_ 32 0#32))
    pads_S16x256x4096_S16x256x4098_000_000_110 h_S_

/-- The first tap's part of the convolution. -/
def part0 (x : Vec F S16x256x4098 .f32) (w : Vec F S64x256x3 .f32) : Vec F S16x64x2048 .f32 :=
  transpose S16x64x2048 [0, 2, 1] (Host.dotGeneral dot_S16x256x2048_S64x256_S16x2048x64_1_1_02_0_n_n none
    (Host.slice S16x256x2048 ![0, 0, 0] ![1, 1, 2] x slicesBy_S16x256x4098_S16x256x2048_0s1_0s1_0s2)
    (shapeCast S64x256 (extractStridedSlice S64x256x1 ![0, 0, 0] w slices_S64x256x3_S64x256x1_0_0_0) shapeCasts_S64x256x1_S64x256))
    transposes_S16x2048x64_S16x64x2048_0_2_1

/-- The second tap's part of the convolution. -/
def part1 (x : Vec F S16x256x4098 .f32) (w : Vec F S64x256x3 .f32) : Vec F S16x64x2048 .f32 :=
  transpose S16x64x2048 [0, 2, 1] (Host.dotGeneral dot_S16x256x2048_S64x256_S16x2048x64_1_1_02_0_n_n none
    (Host.slice S16x256x2048 ![0, 0, 1] ![1, 1, 2] x slicesBy_S16x256x4098_S16x256x2048_0s1_0s1_1s2)
    (shapeCast S64x256 (extractStridedSlice S64x256x1 ![0, 0, 1] w slices_S64x256x3_S64x256x1_0_0_1) shapeCasts_S64x256x1_S64x256))
    transposes_S16x2048x64_S16x64x2048_0_2_1

/-- The third tap's part of the convolution. -/
def part2 (x : Vec F S16x256x4098 .f32) (w : Vec F S64x256x3 .f32) : Vec F S16x64x2048 .f32 :=
  transpose S16x64x2048 [0, 2, 1] (Host.dotGeneral dot_S16x256x2048_S64x256_S16x2048x64_1_1_02_0_n_n none
    (Host.slice S16x256x2048 ![0, 0, 2] ![1, 1, 2] x slicesBy_S16x256x4098_S16x256x2048_0s1_0s1_2s2)
    (shapeCast S64x256 (extractStridedSlice S64x256x1 ![0, 0, 2] w slices_S64x256x3_S64x256x1_0_0_2) shapeCasts_S64x256x1_S64x256))
    transposes_S16x2048x64_S16x64x2048_0_2_1

/-- The convolution's responses, one row of 64 per batch and position. -/
def responses (x : Vec F S16x256x4096 .f32) (w : Vec F S64x256x3 .f32) : Vec F S32768x64 .f32 :=
  shapeCast S32768x64 (transpose S16x2048x64 [0, 2, 1] (addf (addf (part0 (pads x) w) (part1 (pads x) w)) (part2 (pads x) w))
    transposes_S16x64x2048_S16x2048x64_0_2_1) shapeCasts_S16x2048x64_S32768x64

/-- The responses' rows divided by their norms. -/
def unitRows (v : Vec F S32768x64 .f32) : Vec F S32768x64 .f32 :=
  Host.divf v (broadcastInDim S32768x64 ![0, 1] bcast_S32768x1_S32768x64_0_1 (maximumf
    (Host.sqrt (broadcastInDim S32768x1 ![0] bcast_S32768_S32768x1_0
      (Host.reduceAdd (mulf v v) (constant S_ .f32 0x00000000#32) reducesTo_S32768x64_S32768_d1 h_S_)))
    (broadcastInDim S32768x1 ![] bcast_S_S32768x1 (constant S_ .f32 0x2B8CBCCC#32))))

/-- The codebook's rows divided by their norms. -/
def unitCodebook (v : Vec F S1024x64 .f32) : Vec F S1024x64 .f32 :=
  Host.divf v (broadcastInDim S1024x64 ![0, 1] bcast_S1024x1_S1024x64_0_1 (maximumf
    (Host.sqrt (broadcastInDim S1024x1 ![0] bcast_S1024_S1024x1_0
      (Host.reduceAdd (mulf v v) (constant S_ .f32 0x00000000#32) reducesTo_S1024x64_S1024_d1 h_S_)))
    (broadcastInDim S1024x1 ![] bcast_S_S1024x1 (constant S_ .f32 0x2B8CBCCC#32))))

/-- The squared distances of the encodings to the codebook's rows, negated. -/
def negDist (e : Vec F S32768x64 .f32) (cb : Vec F S1024x64 .f32) : Vec F S32768x1024 .f32 :=
  Host.negf (addf
    (subf
      (broadcastInDim S32768x1024 ![0, 1] bcast_S32768x1_S32768x1024_0_1 (broadcastInDim S32768x1 ![0] bcast_S32768_S32768x1_0
        (Host.reduceAdd (mulf e e) (constant S_ .f32 0x00000000#32) reducesTo_S32768x64_S32768_d1 h_S_)))
      (mulf (broadcastInDim S32768x1024 ![] bcast_S_S32768x1024 (constant S_ .f32 0x40000000#32))
        (Host.dotGeneral dot_S32768x64_S64x1024_S32768x1024_1_0_0_1_n_n none e
          (transpose S64x1024 [1, 0] cb transposes_S1024x64_S64x1024_1_0))))
    (broadcastInDim S32768x1024 ![0, 1] bcast_S1x1024_S32768x1024_0_1 (transpose S1x1024 [1, 0]
      (broadcastInDim S1024x1 ![0] bcast_S1024_S1024x1_0
        (Host.reduceAdd (mulf cb cb) (constant S_ .f32 0x00000000#32) reducesTo_S1024x64_S1024_d1 h_S_))
      transposes_S1024x1_S1x1024_1_0)))

/-- The pair each row's comparison ends with: its greatest entry and that entry's index. -/
def greatest (d : Vec F S32768x1024 .f32) (j : S32768.Idx) : F .f32 × BitVec 32 :=
  Host.argReduce reducer_argmax_f32_i32 d (iotaInDim S32768x1024 32 1) (constant S_ .f32 0xFF800000#32) (constantI S_ 32 0#32)
    reducesTo_S32768x1024_S32768_d1 h_S_ j

/-- Every row's negated distances, from the arguments. -/
def scores (x : Vec F S16x256x4096 .f32) (w : Vec F S64x256x3 .f32) (cb : Vec F S1024x64 .f32) : Vec F S32768x1024 .f32 :=
  negDist (unitRows (responses x w)) (unitCodebook cb)

end Cert.Proof.RefTerm
-- ==== Proof.RefRun.lean ====
/- The reference's runs: it is a straight line of host operations that writes none of its arguments and ends with its
   result in the last buffer. -/
module

public import proofs.«01_k».proof.Defs
public import proofs.«01_k».proof.Proof.RefTerm
public import Idealize.ShloMosaic.Lib.Claim

@[expose] public section

noncomputable section

namespace Cert.Proof

open Idealize.ShloMosaic Idealize.SL.Sem Cert.ReferenceIdeal Cert.ReferenceIdeal.Gen
open Idealize.ShloMosaic.TcCoe

/-- The reference runs, leaves its arguments as they were, and every counter at zero: it declares no semaphore. -/
theorem frame_reference : Cert.quiescent_ReferenceIdeal (hReferenceIdeal := Cert.ReferenceIdeal.Gen.facts) := by
  intro m g _
  hlo_run
  · exact fun _ => ⟨trivial, trivial, trivial⟩
  · exact Idealize.ShloMosaic.sem_eq_zero_of_no_sems (sig := Cert.ReferenceIdeal.sig) (by decide) _

/-- Equal indices in rank order are equal as the 16 × 2048 array the reference returns. -/
theorem reshaped (V V' : Vec Ideal S32768 .i32) (h : V = V') :
    (fun i => shapeCast S16x2048 V shapeCasts_S32768_S16x2048 i) = shapeCast S16x2048 V' shapeCasts_S32768_S16x2048 := by
  subst h
  rfl

/-- What the comparison's buffer holds is what was written to it. -/
theorem written (v : Vec Ideal S32768 .i32) : main_call1.v1_1.toBuf (Val := Elt Ideal) v = v := rfl

/-- Equal operands have the same greatest entries. -/
theorem compared (X Y : FVec Ideal S32768x1024 .f32) (I : S32768x1024.Idx → BitVec 32) (u : FVec Ideal S_ .f32) (v : S_.Idx → BitVec 32)
    (j : S32768.Idx)
    (hX : X = Y) (hI : I = iotaInDim S32768x1024 32 1) (hu : u = constant S_ .f32 0xFF800000#32) (hv : v = constantI S_ 32 0#32) :
    Host.argReduce reducer_argmax_f32_i32 X I u v reducesTo_S32768x1024_S32768_d1 h_S_ j = RefTerm.greatest (F := Ideal) Y j := by
  subst hX hI hu hv
  unfold RefTerm.greatest
  with_reducible rfl

set_option maxRecDepth 20000 in
set_option maxHeartbeats 4000000 in
/-- From any memory the reference runs and leaves its result, computed from the arguments as they were, in its last buffer. -/
theorem run_reference (m : (ℓ : Loc nD τ sig) → Buf (Elt Ideal) ℓ) (g : Dev nD → PrngReg) :
    θ_run (defs (F := Ideal)) (onTc (main (F := Ideal))) ⟨m, fun _ => 0, g⟩ fun r => ∀ c : Dev nD,
      r.2.mem ((c : Thread nD τ).loc main_v53) = shapeCast S16x2048 (fun j => (RefTerm.greatest (RefTerm.scores (F := Ideal) (m ((c : Thread nD τ).loc main_arg0))
        (m ((c : Thread nD τ).loc main_arg1)) (m ((c : Thread nD τ).loc main_arg2))) j).2) shapeCasts_S32768_S16x2048 := by
  hlo_run
  refine reshaped _ _ ?_
  refine (written _).trans ?_
  funext j
  refine congrArg Prod.snd ?_
  refine compared _ _ _ _ _ _ ?_ ?_ ?_ ?_
  · rfl
  · rfl
  · rfl
  · rfl

end Cert.Proof

end
-- ==== Proof.Block.lean ====
/- What one grid point of the kernel leaves in its output block. -/
module

public import proofs.«01_k».proof.Proof.Gen.KernelIdeal.Frame
public import Idealize.ShloMosaic.Lib.Pipeline.Value
public import Idealize.ShloMosaic.Lib.Pipeline.ValueKit
public import Idealize.ShloMosaic.Lib.Pointwise

@[expose] public section

noncomputable section

namespace Cert.Proof.Block

open Idealize.ShloMosaic Idealize.SL.Sem Cert.KernelIdeal Cert.KernelIdeal.Gen
open Idealize.ShloMosaic.TcCoe

variable {F : FTy → Type} [FloatOps F]
variable (m : (ℓ : Loc nD τ sig) → Buf (Elt F) ℓ)

/-- Rows 0, 2, 4, … of an array of 4096 rows. -/
def evenRows (E : Vec F S4096x64 .f32) : Vec F S2048x64 .f32 := fun i =>
  E (ix2 ⟨2 * (i 0).val, by have : (i 0).val < 2048 := (i 0).isLt; omega⟩ (i 1))

/-- A load of a whole input buffer reads what the buffer holds. -/
theorem readAt_whole {κ : Kind} {sp : Space} {s : Shape} {e : EltTy} {r : Memref sig κ sp s e} (h : r.IsWhole)
    (X : s.Idx → Elt F e) {off : Fin s.rank → Nat} (h0 : ∀ a, off a = 0) (inb : ∀ a, off a + s.size a ≤ s.size a) :
    r.view.readAt (Elt F) (Rect.unit off s.size inb).toLoadRect (h.unread X) = X := by
  rw [View.readAt_eq_ld, h.read_unread]
  exact View.ld_unit_lit inb X h0

/-- What a grid point leaves in its output block: the second payload at the even rows of the encodings that the first
    payload computes from the point's block of `x` and the three taps, and at the codebook. -/
theorem outs_eq (c : Dev nD) (t : Fin cfg0.N) :
    outsAt0 m c t = k0_pay1 (evenRows (k0_pay2 (iblk m c 0 t) (iblk m c 2 t) (iblk m c 3 t) (iblk m c 1 t)))
      (iblk m c 4 t) := by
  unfold outsAt0 out0_A_5 kernelRun0_A
  dsimp only
  rw [View.read_writes_junk_eq_canon]
  refine (View.canon_unit_zero (S := S1x1x2048) (by decide) _ _).trans ?_
  refine congrArg₂ k0_pay1 ?_ (readAt_whole _ _ (by decide) _)
  unfold kernelRun0_A.sl.v35
  rw [View.readCov_eq_canon']
  unfold kernelRun0_A.sl.HS0_1
  rw [View.canon_unit_zero (S := S4096x64) (by decide), readAt_whole _ _ (by decide) _,
    readAt_whole _ _ (by decide) _, readAt_whole _ _ (by decide) _, readAt_whole _ _ (by decide) _]
  funext j
  refine congrArg (k0_pay2 _ _ _ _) (funext fun d => Fin.ext ?_)
  fin_cases d
  · show 0 + 2 * (j 0).val = 2 * (j 0).val
    omega
  · show 0 + 1 * (j 1).val = (j 1).val
    omega

end Cert.Proof.Block
-- ==== Proof.Tap.lean ====
/- Cutting one tap of the convolution's weights out of the three. -/
module

public import Idealize.ShloMosaic.Lib.Pipeline.Value
public import Idealize.ShloMosaic.Lib.Pointwise.Reshape
public import Idealize.ShloMosaic.Lib.Pointwise

@[expose] public section

noncomputable section

namespace Cert.Proof

open Idealize.ShloMosaic

/-- Tap `k` of the weights: the 64 × 256 matrix that multiplies the column `k` steps into the window. -/
def tap {α : Type} (w : (⟨3, ![64, 256, 3]⟩ : Shape).Idx → α) (k : Fin 3) : (⟨2, ![64, 256]⟩ : Shape).Idx → α := fun i =>
  w (ix3 (i 0) (i 1) k)

/-- A slice of the weights one wide on the last axis, with that axis dropped, is the tap the slice starts at. -/
theorem tap_eq {α : Type} (w : (⟨3, ![64, 256, 3]⟩ : Shape).Idx → α) (k : Fin 3) (off : Fin 3 → Nat)
    (hoff : off = ![0, 0, k.val])
    (h : (⟨3, ![64, 256, 3]⟩ : Shape).Slices off (⟨3, ![64, 256, 1]⟩ : Shape))
    (h' : (⟨3, ![64, 256, 1]⟩ : Shape).ShapeCasts (⟨2, ![64, 256]⟩ : Shape)) :
    shapeCast (⟨2, ![64, 256]⟩ : Shape) (extractStridedSlice (⟨3, ![64, 256, 1]⟩ : Shape) off w h) h' = tap w k := by
  subst hoff
  funext i
  refine (shapeCast_apply _ h' i (ix3 (i 0) (i 1) 0) ?_).trans ?_
  · rw [rowMajor_val3 _ 256 1 rfl rfl, rowMajor_val2 _ 256 rfl]
    show (i 0).val * 256 + (i 1).val * 1 + 0 = _
    omega
  · refine extractStridedSlice_apply _ _ h _ _ fun a => ?_
    match a with
    | ⟨0, _⟩ => show (i 0).val = 0 + (i 0).val; omega
    | ⟨1, _⟩ => show (i 1).val = 0 + (i 1).val; omega
    | ⟨2, _⟩ => show k.val = k.val + 0; omega

end Cert.Proof
-- ==== Proof.KernelRun.lean ====
/- The kernel's run, read: its result buffer holds what the grid points left in their blocks, and each point's input
   blocks are parts of the arguments. -/
module

public import proofs.«01_k».proof.Proof.Block
public import proofs.«01_k».proof.Proof.Tap

@[expose] public section

noncomputable section

namespace Cert.Proof.KernelRun

open Idealize.ShloMosaic Idealize.SL.Sem Cert.KernelIdeal Cert.KernelIdeal.Gen
open Idealize.ShloMosaic.TcCoe

variable {F : FTy → Type} [FloatOps F]
variable (m : (ℓ : Loc nD τ sig) → Buf (Elt F) ℓ)

/-- The grid has sixteen points. -/
theorem points : cfg0.N = 16 := N_0

/-- The grid point that works on batch `b`. -/
def point (b : Fin 16) : Fin cfg0.N := ⟨b.val, by rw [points]; exact b.isLt⟩

/-- The kernel's whole output array: at batch `b` and position `t`, what point `b` left at position `t`. -/
def indices (c : Dev nD) : Buf (Elt F) ((c : Thread nD τ).loc main_v9) :=
  fun (i : S16x1x2048.Idx) => outsAt0 m c (point (i 0)) (ix3 0 0 (i 2))

/-- Where the output's blocks lie: point `t`'s is block `t` along the batch axis. -/
theorem index_out : ∀ t : Fin cfg0.N, win0_5.index t 0 = t.val ∧ win0_5.index t 1 = 0 ∧ win0_5.index t 2 = 0 :=
  (by decide +kernel : ∀ t : Fin grid0.N, win0_5.index t 0 = t.val ∧ win0_5.index t 1 = 0 ∧ win0_5.index t 2 = 0)

/-- Where the input's blocks lie: point `t`'s is block `t` along the batch axis. -/
theorem index_in : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- Index `x` of point `t`'s output block is, in the whole array, at batch `t`. -/
theorem emb_out (t : Fin cfg0.N) (x : S1x1x2048.Idx) :
    (((cfg0.win 5).blk t).view.emb x : S16x1x2048.Idx) = ix3 ⟨t.val, points ▸ t.isLt⟩ 0 (x 2) := by
  obtain ⟨e0, e1, e2⟩ := index_out t
  have h0 : (x 0).val < 1 := (x 0).isLt
  have h1 : (x 1).val < 1 := (x 1).isLt
  funext a
  refine Fin.ext ?_
  match a with
  | ⟨0, _⟩ =>
    show win0_5.index t 0 * 1 + 1 * (x 0).val = t.val
    omega
  | ⟨1, _⟩ =>
    show win0_5.index t 1 * 1 + 1 * (x 1).val = 0
    omega
  | ⟨2, _⟩ =>
    show win0_5.index t 2 * 2048 + 1 * (x 2).val = (x 2).val
    omega

/-- Reading the output array through a point's block reads it at the point's batch. -/
theorem read_out (t : Fin cfg0.N) (G : S16x1x2048.Idx → Elt F .i32) (x : S1x1x2048.Idx) :
    ((cfg0.win 5).blk t).view.read (Elt F) G x = G (ix3 ⟨t.val, points ▸ t.isLt⟩ 0 (x 2)) :=
  congrArg G (emb_out t x)

/-- What a point writes back is its block of the whole array. -/
theorem flushed_eq (c : Dev nD) (t : Fin cfg0.N) :
    (dats m 0 c).flushed 5 t = ((cfg0.win 5).blk t).view.read (Elt F) (indices m c) := by
  show (cfg0.win 5).cut (grid0.coords t) ((dats m 0 c).after 5 t) = _
  rw [after0_5]
  funext (x : S1x1x2048.Idx)
  refine Eq.trans ?_ (read_out t (indices m c) x).symm
  have h0 : (x 0).val < 1 := (x 0).isLt
  have h1 : (x 1).val < 1 := (x 1).isLt
  show outsAt0 m c t x = outsAt0 m c t (ix3 0 0 (x 2))
  refine congrArg _ (funext fun a => Fin.ext ?_)
  match a with
  | ⟨0, _⟩ => show (x 0).val = 0; omega
  | ⟨1, _⟩ => show (x 1).val = 0; omega
  | ⟨2, _⟩ => rfl

/-- Every index of the output array lies in the block of its batch's point. -/
theorem cover (i : S16x1x2048.Idx) :
    ∃ t : Fin cfg0.N, (cfg0.win 5).flush t = true ∧ i ∈ ((cfg0.win 5).blk t).view.set := by
  refine ⟨point (i 0), flush0_5 _, ?_⟩
  have h : ((cfg0.win 5).blk (point (i 0))).view.emb (ix3 0 0 (i 2) : S1x1x2048.Idx) = i := by
    refine (emb_out _ _).trans (funext fun a => Fin.ext ?_)
    have h1 : (i 1).val < 1 := (i 1).isLt
    match a with
    | ⟨0, _⟩ => rfl
    | ⟨1, _⟩ => show 0 = (i 1).val; omega
    | ⟨2, _⟩ => rfl
  have hm := ((cfg0.win 5).blk (point (i 0))).view.emb_mem_set (ix3 0 0 (i 2) : S1x1x2048.Idx)
  rw [h] at hm
  exact hm

/-- The region leaves the whole output array. -/
theorem array_eq (c : Dev nD) : (dats m 0 c).arrAt 5 cfg0.N = indices m c :=
  (dats m 0 c).arrAt_eq_of_cover 5 (indices m c) (fun t _ => flushed_eq m c t) cover

/-- The host's closing reshape drops the unit axis. -/
theorem tail_eq (c : Dev nD) :
    Pipeline.afterTail₀ cfgs (dats m) 0 (V0 m) [hostOps1] c main_v10
      = shapeCast S16x2048 (indices m c) shapeCasts_S16x1x2048_S16x2048 := by
  show StableHlo.after hostOps1 _ (Proc.devRef .tc main_v10) = _
  after_results
  have e := Pipeline.withArrays_arr cfg0.spec launch0.win.arr_inj c (V0 m c) (fun w => (dats m 0 c).arrAt w cfg0.N) 5
  exact congrArg (fun x => shapeCast S16x2048 x shapeCasts_S16x1x2048_S16x2048) (e.trans (array_eq m c))

/-- The result at batch `b` and position `t`: what point `b` left at position `t`. -/
theorem tail_apply (c : Dev nD) (i : S16x2048.Idx) :
    Pipeline.afterTail₀ cfgs (dats m) 0 (V0 m) [hostOps1] c main_v10 i
      = outsAt0 m c (point (i 0)) (ix3 0 0 (i 1)) := by
  rw [tail_eq]
  refine (shapeCast_apply _ _ i (ix3 (i 0) 0 (i 1) : S16x1x2048.Idx) ?_).trans rfl
  rw [rowMajor_val3 _ 2048 2048 rfl rfl, rowMajor_val2 _ 2048 rfl]
  show (i 0).val * 2048 + 0 * 2048 + (i 1).val = _
  omega

/-- The kernel runs, and its result holds what the grid points left, batch by batch. -/
theorem run (ρ : Dev nD → PrngReg) : θ_run defs (onTc (τ := τ) (main (F := F))) ⟨m, fun _ => 0, ρ⟩ fun r => ∀ c : Dev nD,
    r.2.mem ((c : Thread nD τ).loc main_v10)
      = fun i : S16x2048.Idx => outsAt0 m c (point (i 0)) (ix3 0 0 (i 1)) :=
  (θ_run defs _ _).mono (fun r h c =>
    ((h c).2 main_v10 (Pipeline.mem_restRefs_of main_v10 (by decide) (by decide))).trans
      (funext fun i => tail_apply m c i)) (run_main m ρ)

/-- Index `j` of point `b`'s input block is, in the whole input, at batch `b`. -/
theorem emb_in (b : Fin 16) (j : S1x256x4096.Idx) :
    (((cfg0.win 0).blk (point b)).view.emb j : S16x256x4096.Idx) = ix3 b (j 1) (j 2) := by
  obtain ⟨e0, e1, e2⟩ := index_in (point b)
  have h0 : (j 0).val < 1 := (j 0).isLt
  have hb : (point b).val = b.val := rfl
  funext a
  refine Fin.ext ?_
  match a with
  | ⟨0, _⟩ =>
    show win0_0.index (point b) 0 * 1 + 1 * (j 0).val = b.val
    omega
  | ⟨1, _⟩ =>
    show win0_0.index (point b) 1 * 256 + 1 * (j 1).val = (j 1).val
    omega
  | ⟨2, _⟩ =>
    show win0_0.index (point b) 2 * 4096 + 1 * (j 2).val = (j 2).val
    omega

/-- Reading the input through point `b`'s block reads batch `b`. -/
theorem read_in (b : Fin 16) (G : S16x256x4096.Idx → Elt F .f32) (j : S1x256x4096.Idx) :
    ((cfg0.win 0).blk (point b)).view.read (Elt F) G j = G (ix3 b (j 1) (j 2)) :=
  congrArg G (emb_in b j)

/-- Point `b`'s block of the input is batch `b`. -/
theorem block_x (c : Dev nD) (b : Fin 16) (j : S1x256x4096.Idx) :
    iblk m c 0 (point b) j = m ((c : Thread nD τ).loc main_arg0) (ix3 b (j 1) (j 2) : S16x256x4096.Idx) := by
  refine (read_in b (V m c main_arg0) j).trans ?_
  rw [V_main_arg0]

/-- Every point reads the whole codebook. -/
theorem block_codebook (c : Dev nD) (t : Fin cfg0.N) :
    iblk m c 4 t = m ((c : Thread nD τ).loc main_arg2) := by
  rw [← V_main_arg2 m c]
  funext (i : S1024x64.Idx)
  have e : (((cfg0.win 4).blk t).view.emb i : S1024x64.Idx) = i := by
    funext a
    refine Fin.ext ?_
    match a with
    | ⟨0, _⟩ => show 0 * 1024 + 1 * (i 0).val = (i 0).val; omega
    | ⟨1, _⟩ => show 0 * 64 + 1 * (i 1).val = (i 1).val; omega
  exact congrArg (V m c main_arg2 : S1024x64.Idx → Elt F .f32) e

/-- The host leaves tap 0, narrowed, in the buffer that window 1 stages. -/
theorem entry_tap0 (c : Dev nD) :
    V m c main_v2 = truncf .bf16 (tap (m ((c : Thread nD τ).loc main_arg1)) 0) bitsLt_bf16_f32 := by
  show StableHlo.after hostOps0 _ (Proc.devRef .tc main_v2) = _
  after_results
  exact congrArg (truncf .bf16 · bitsLt_bf16_f32)
    (tap_eq _ 0 _ rfl slices_S64x256x3_S64x256x1_0_0_0 shapeCasts_S64x256x1_S64x256)

/-- Every point reads the whole of tap 0. -/
theorem block_tap0 (c : Dev nD) (t : Fin cfg0.N) :
    iblk m c 1 t = truncf .bf16 (tap (m ((c : Thread nD τ).loc main_arg1)) 0) bitsLt_bf16_f32 := by
  rw [← entry_tap0]
  funext (i : S64x256.Idx)
  have e : (((cfg0.win 1).blk t).view.emb i : S64x256.Idx) = i := by
    funext a
    refine Fin.ext ?_
    match a with
    | ⟨0, _⟩ => show 0 * 64 + 1 * (i 0).val = (i 0).val; omega
    | ⟨1, _⟩ => show 0 * 256 + 1 * (i 1).val = (i 1).val; omega
  exact congrArg (V m c main_v2 : S64x256.Idx → Elt F .bf16) e

/-- The host leaves tap 1, narrowed, in the buffer that window 2 stages. -/
theorem entry_tap1 (c : Dev nD) :
    V m c main_v5 = truncf .bf16 (tap (m ((c : Thread nD τ).loc main_arg1)) 1) bitsLt_bf16_f32 := by
  show StableHlo.after hostOps0 _ (Proc.devRef .tc main_v5) = _
  after_results
  exact congrArg (truncf .bf16 · bitsLt_bf16_f32)
    (tap_eq _ 1 _ rfl slices_S64x256x3_S64x256x1_0_0_1 shapeCasts_S64x256x1_S64x256)

/-- Every point reads the whole of tap 1. -/
theorem block_tap1 (c : Dev nD) (t : Fin cfg0.N) :
    iblk m c 2 t = truncf .bf16 (tap (m ((c : Thread nD τ).loc main_arg1)) 1) bitsLt_bf16_f32 := by
  rw [← entry_tap1]
  funext (i : S64x256.Idx)
  have e : (((cfg0.win 2).blk t).view.emb i : S64x256.Idx) = i := by
    funext a
    refine Fin.ext ?_
    match a with
    | ⟨0, _⟩ => show 0 * 64 + 1 * (i 0).val = (i 0).val; omega
    | ⟨1, _⟩ => show 0 * 256 + 1 * (i 1).val = (i 1).val; omega
  exact congrArg (V m c main_v5 : S64x256.Idx → Elt F .bf16) e

/-- The host leaves tap 2, narrowed, in the buffer that window 3 stages. -/
theorem entry_tap2 (c : Dev nD) :
    V m c main_v8 = truncf .bf16 (tap (m ((c : Thread nD τ).loc main_arg1)) 2) bitsLt_bf16_f32 := by
  show StableHlo.after hostOps0 _ (Proc.devRef .tc main_v8) = _
  after_results
  exact congrArg (truncf .bf16 · bitsLt_bf16_f32)
    (tap_eq _ 2 _ rfl slices_S64x256x3_S64x256x1_0_0_2 shapeCasts_S64x256x1_S64x256)

/-- Every point reads the whole of tap 2. -/
theorem block_tap2 (c : Dev nD) (t : Fin cfg0.N) :
    iblk m c 3 t = truncf .bf16 (tap (m ((c : Thread nD τ).loc main_arg1)) 2) bitsLt_bf16_f32 := by
  rw [← entry_tap2]
  funext (i : S64x256.Idx)
  have e : (((cfg0.win 3).blk t).view.emb i : S64x256.Idx) = i := by
    funext a
    refine Fin.ext ?_
    match a with
    | ⟨0, _⟩ => show 0 * 64 + 1 * (i 0).val = (i 0).val; omega
    | ⟨1, _⟩ => show 0 * 256 + 1 * (i 1).val = (i 1).val; omega
  exact congrArg (V m c main_v8 : S64x256.Idx → Elt F .bf16) e

end Cert.Proof.KernelRun
-- ==== Proof.Spec.lean ====
/- What both programs compute, as mathematics over the extended reals: a convolution of width 3 and stride 2, each
   position's 64 responses and each codebook row divided by their norms, and the row that scores highest. -/
module

public import Idealize.ShloMosaic.Lib.Pointwise
public import proofs.«01_k».proof.Proof.Tap

@[expose] public section

noncomputable section

namespace Cert.Proof

open Idealize.ShloMosaic

/-- The input: 16 batches of 256 channels of 4096 columns. -/
abbrev Input : Type := (⟨3, ![16, 256, 4096]⟩ : Shape).Idx → EReal
/-- The convolution's weights: 64 outputs of 256 channels of 3 taps. -/
abbrev Weights : Type := (⟨3, ![64, 256, 3]⟩ : Shape).Idx → EReal
/-- The codebook: 1024 rows of 64 entries. -/
abbrev Codebook : Type := (⟨2, ![1024, 64]⟩ : Shape).Idx → EReal

/-- The least norm that is divided by. -/
def eps : EReal := Ideal.ofBits .f32 0x2B8CBCCC#32

/-- The norm of 64 numbers, but at least `eps`. -/
def nrm (v : Fin 64 → EReal) : EReal := max (Ideal.sqrt (∑ d, v d * v d)) eps

/-- The 64 numbers divided by that norm, as a multiplication by its reciprocal. -/
def unit (v : Fin 64 → EReal) (d : Fin 64) : EReal := v d * Ideal.div 1 (nrm v)

/-- Column `j` of channel `c` of batch `b`, in the input with one zero column put before and after. -/
def padded (x : Input) (b : Fin 16) (c : Fin 256) (j : ℕ) : EReal :=
  if h : 1 ≤ j ∧ j ≤ 4096 then x (ix3 b c ⟨j - 1, by omega⟩) else 0

/-- Tap `k`'s part of the convolution at position `t`. -/
def part (x : Input) (w : Weights) (b : Fin 16) (t : Fin 2048) (k : Fin 3) (o : Fin 64) : EReal :=
  ∑ c : Fin 256, padded x b c (2 * t.val + k.val) * tap w k (ix2 o c)

/-- The convolution's response `o` at position `t` of batch `b`. -/
def conv (x : Input) (w : Weights) (b : Fin 16) (t : Fin 2048) (o : Fin 64) : EReal :=
  part x w b t 0 o + part x w b t 1 o + part x w b t 2 o

/-- Row `k` of the codebook. -/
def row (cb : Codebook) (k : Fin 1024) (d : Fin 64) : EReal := cb (ix2 k d)

/-- The inner product of two vectors of 64. -/
def dot (u v : Fin 64 → EReal) : EReal := ∑ d, u d * v d

/-- `k` is the first index at which `f` is greatest. -/
def FirstMax {n : ℕ} (f : Fin n → EReal) (k : Fin n) : Prop := (∀ j, f j ≤ f k) ∧ ∀ j, j < k → f j < f k

/-- There is only one such index, and it is the same for functions that order the indices alike. -/
theorem FirstMax.unique {n : ℕ} {f g : Fin n → EReal} {k l : Fin n} (hk : FirstMax f k) (hl : FirstMax g l)
    (h : ∀ i j, f i ≤ f j ↔ g i ≤ g j) : k = l := by
  rcases lt_trichotomy k l with c | c | c
  · have := hl.2 k c
    rw [← not_le, ← h] at this
    exact absurd (hk.1 l) this
  · exact c
  · have := hk.2 l c
    rw [← not_le, h] at this
    exact absurd (hl.1 k) this

end Cert.Proof
-- ==== Proof.KernelArgmax.lean ====
/- The kernel's index reduction: the first row at which a column is greatest. -/
module

public import proofs.«01_k».proof.Proof.Spec

@[expose] public section

noncomputable section

namespace Cert.Proof

open Idealize.ShloMosaic

/-- A function on finitely many indices, at least one, has a first index at which it is greatest. -/
theorem FirstMax.exists {n : ℕ} (h : 0 < n) (f : Fin n → EReal) : ∃ k, FirstMax f k := by
  have hne : (Finset.univ.filter fun i : Fin n => ∀ j, f j ≤ f i).Nonempty := by
    obtain ⟨i, -, hi⟩ := Finset.exists_max_image (Finset.univ : Finset (Fin n)) f ⟨⟨0, h⟩, Finset.mem_univ _⟩
    exact ⟨i, by simpa using fun j => hi j (Finset.mem_univ j)⟩
  obtain ⟨k, hk, hmin⟩ := Finset.exists_min_image _ (fun i : Fin n => i) hne
  have hk' : ∀ j, f j ≤ f k := by simpa using hk
  refine ⟨k, hk', fun j hj => lt_of_le_of_ne (hk' j) fun e => ?_⟩
  have : k ≤ j := hmin j (by simpa using fun i => (hk' i).trans e.ge)
  exact absurd hj (not_lt.2 this)

/-- The index reduction of a column `t` of a 1024 × 2048 array answers the first row at which the column is greatest. -/
theorem reduceIndex_first (v : (⟨2, ![1024, 2048]⟩ : Shape).Idx → EReal)
    (h : (⟨2, ![1024, 2048]⟩ : Shape).Reduces [0] (⟨1, ![2048]⟩ : Shape)) (t : Fin 2048) :
    ∃ k : Fin 1024, FirstMax (fun k => v (ix2 k t)) k
      ∧ Ideal.reduceIndex .argMax 0 h v (ix1 t) = BitVec.ofNat 32 k.val := by
  obtain ⟨k, hk⟩ := FirstMax.exists (by decide) (fun k : Fin 1024 => v (ix2 k t))
  refine ⟨k, hk, ?_⟩
  have mem : ∀ i : (⟨2, ![1024, 2048]⟩ : Shape).Idx, h.drop i = ix1 t ↔ i = ix2 (i 0) t := by
    intro i
    have hv : (h.drop i 0).val = (i 1).val := h.drop_apply_val_of_eq i 0 1
    constructor
    · intro e
      have e0 : (h.drop i 0).val = t.val := by rw [e]; rfl
      funext a
      match a with
      | ⟨0, _⟩ => rfl
      | ⟨1, _⟩ => exact Fin.ext (hv.symm.trans e0)
    · intro e
      funext a
      match a with
      | ⟨0, _⟩ =>
        refine Fin.ext (hv.trans ?_)
        rw [e]
        rfl
  unfold Ideal.reduceIndex
  simp only [if_true]
  refine congrArg (BitVec.ofNat 32) ?_
  have hmin : (Finset.image (fun i : (⟨2, ![1024, 2048]⟩ : Shape).Idx => (i 0).val)
      ((Finset.univ.filter fun i => h.drop i = ix1 t).filter fun i =>
        ∀ i' ∈ Finset.univ.filter (fun i => h.drop i = ix1 t), ¬ v i < v i')).min = ((k.val : ℕ) : WithTop ℕ) := by
    refine le_antisymm (Finset.min_le (Finset.mem_image.2 ⟨ix2 k t, ?_, rfl⟩)) (Finset.le_min fun a ha => ?_)
    · refine Finset.mem_filter.2 ⟨Finset.mem_filter.2 ⟨Finset.mem_univ _, (mem _).2 rfl⟩, fun i' hi' => ?_⟩
      rw [(mem i').1 (Finset.mem_filter.1 hi').2]
      exact not_lt.2 (hk.1 (i' 0))
    · obtain ⟨i, hi, rfl⟩ := Finset.mem_image.1 ha
      obtain ⟨hi, hmax⟩ := Finset.mem_filter.1 hi
      have ei := (mem i).1 (Finset.mem_filter.1 hi).2
      refine WithTop.coe_le_coe.2 (not_lt.1 fun hlt => ?_)
      have := hmax (ix2 k t) (Finset.mem_filter.2 ⟨Finset.mem_univ _, (mem _).2 rfl⟩)
      rw [ei] at this
      exact this (hk.2 (i 0) hlt)
  exact congrArg (fun o : Option ℕ => o.getD 0) hmin

end Cert.Proof
-- ==== Proof.KernelValue.lean ====
/- What the kernel's two payloads compute, entry by entry: the normalised responses, and the scores' first maximum. -/
module

public import proofs.«01_k».proof.Proof.Gen.KernelIdeal.Skeleton
public import proofs.«01_k».proof.Proof.KernelArgmax

@[expose] public section

noncomputable section

namespace Cert.Proof.KernelValue

open Idealize.ShloMosaic Cert.KernelIdeal Cert.KernelIdeal.Gen

/-- One tap's product with the block: the responses before they are moved into place. -/
def product (w : FVec Ideal S64x256 .bf16) (x : Vec Ideal S1x256x4096 .f32) (o : Fin 64) (l : Fin 4096) : EReal :=
  ∑ c : Fin 256, w (ix2 o c) * x (ix3 0 c l)

/-- The kernel's response `o` at column `l`: the middle tap there, the last tap one column on (around the end), and the
    first tap one column back, left out at the first column. -/
def response (x : Vec Ideal S1x256x4096 .f32) (w1 w2 w0 : FVec Ideal S64x256 .bf16) (l : Fin 4096) (o : Fin 64) : EReal :=
  product w1 x o l + product w2 x o ⟨(l.val + 1) % 4096, Nat.mod_lt _ (by decide)⟩
    + if l.val = 0 then 0 else product w0 x o ⟨(l.val + 4095) % 4096, Nat.mod_lt _ (by decide)⟩

/-- The matrix product of a tap with the block, entry by entry. -/
theorem matmul_tap (w : FVec Ideal S64x256 .bf16) (x : Vec Ideal S1x256x4096 .f32) (o : Fin 64) (l : Fin 4096) :
    matmul (F := Ideal) dot_S64x256_S256x4096_S64x4096_1_0_0_1_n_n none (shapeCast S64x256 w shapeCasts_S64x256_S64x256)
      (truncf .bf16 (shapeCast S256x4096 x shapeCasts_S1x256x4096_S256x4096) bitsLt_bf16_f32)
      (constant S64x4096 .f32 0x00000000#32) (ix2 o l) = product w x o l := by
  pointwise
  rfl

/-- A rotation by `n` along the columns reads `n` columns back, around the start. -/
theorem rotate_apply (n : BitVec 32) (x : FVec Ideal S64x4096 .f32) (o : Fin 64) (l : Fin 4096) (hn : n.toNat ≤ 4095) :
    dynamicRotate 1 n none x rotates_S64x4096_d1 (ix2 o l)
      = x (ix2 o ⟨(l.val + (4096 - n.toNat)) % 4096, Nat.mod_lt _ (by decide)⟩) := by
  unfold dynamicRotate
  refine congrArg x (funext fun a => ?_)
  match a with
  | ⟨0, _⟩ => exact if_neg (show ¬ (0 : Fin 2) = 1 by decide)
  | ⟨1, _⟩ =>
    refine (if_pos rfl).trans (Fin.ext ?_)
    show (l.val + 4096 - (n.toNat + 0) % 4096) % 4096 = (l.val + (4096 - n.toNat)) % 4096
    congr 1
    omega

/-- The comparison of the column number with zero chooses between zero and the entry. -/
theorem mask_apply (x : FVec Ideal S64x4096 .f32) (o : Fin 64) (l : Fin 4096) :
    select (cmpi .eq (iota .tc S64x4096 32 [1] iota_S64x4096_d1_w32) (broadcast S64x4096 0#32))
      (broadcast S64x4096 (Scalar.ofBits (F := Ideal) .f32 0x00000000#32)) x (ix2 o l)
      = if l.val = 0 then 0 else x (ix2 o l) := by
  simp only [pointwise]
  have e : List.foldl (fun n a => n * ![64, 4096] a + ((ix2 o l a : Fin _) : ℕ)) 0 ([1] : List (Fin 2)) = l.val := by
    show 0 * 4096 + l.val = l.val
    omega
  have hl : l.val < 4096 := l.isLt
  refine (congrArg (fun n => Scalar.select (IntOp.cmpi CmpIPredicate.eq (BitVec.ofNat 32 n) 0#32) 0 (x (ix2 o l))) e).trans ?_
  by_cases h : l.val = 0
  · rw [if_pos h, h]
    rfl
  · rw [if_neg h]
    have hb : IntOp.cmpi CmpIPredicate.eq (BitVec.ofNat 32 l.val) 0#32 = 0#1 := by
      have hne : BitVec.ofNat 32 l.val ≠ 0#32 := fun e => h (by
        have := congrArg BitVec.toNat e
        rw [BitVec.toNat_ofNat, Nat.mod_eq_of_lt (by omega)] at this
        exact this)
      show BitVec.ofBool (_ == _) = 0#1
      rw [beq_eq_false_iff_ne.2 hne]
      rfl
    rw [hb]
    rfl

/-- The normalisation of the columns of a 64 × 4096 array, and its transpose, entry by entry. -/
theorem normalise_apply (v : FVec Ideal S64x4096 .f32) (l : Fin 4096) (o : Fin 64) :
    shapeCast S4096x64 (transpose S4096x64 [1, 0] (mulf v (broadcastTo S64x4096 (divf (broadcast S1x4096 (Scalar.ofBits .f32 0x3F800000#32))
      (maximumf (sqrt (shapeCast S1x4096 (multiReduction .add [0] S4096 (mulf v v) 0x00000000#32 reduces_S64x4096_S4096 (.inl rfl) rfl)
          shapeCasts_S4096_S1x4096)) (broadcast S1x4096 (Scalar.ofBits .f32 0x2B8CBCCC#32)))) broadcasts_S1x4096_S64x4096))
      transposes_S64x4096_p1_0_S4096x64) shapeCasts_S4096x64_S4096x64 (ix2 l o) = unit (fun o => v (ix2 o l)) o := by
  pointwise
  rfl

/-- The first payload, entry by entry: column `l`'s responses divided by their norm. -/
theorem encodings_apply (x : Vec Ideal S1x256x4096 .f32) (w1 w2 w0 : Vec Ideal S64x256 .bf16) (l : Fin 4096) (o : Fin 64) :
    k0_pay2 (F := Ideal) x w1 w2 w0 (ix2 l o) = unit (response x w1 w2 w0 l) o := by
  refine (normalise_apply _ l o).trans (congrArg (unit · o) (funext fun o => ?_))
  simp only [ValueIdx.addf_apply]
  rw [mask_apply, rotate_apply _ _ _ _ (by decide), rotate_apply _ _ _ _ (by decide), matmul_tap, matmul_tap, matmul_tap]
  rfl

/-- The second payload: at position `t`, the first codebook row whose score with the encoding is greatest. -/
theorem indices_apply (e : Vec Ideal S2048x64 .f32) (cb : Vec Ideal S1024x64 .f32) (t : Fin 2048) :
    ∃ k : Fin 1024, FirstMax (fun k => dot (unit (row cb k)) fun d => e (ix2 t d)) k
      ∧ k0_pay1 (F := Ideal) e cb (ix3 0 0 t) = BitVec.ofNat 32 k.val := by
  unfold k0_pay1
  dsimp only
  pointwise
  obtain ⟨k, hk, e⟩ := reduceIndex_first _ reduces_S1024x2048_S2048 t
  refine ⟨k, ?_, e⟩
  convert hk using 2 with k
  pointwise
  rfl

end Cert.Proof.KernelValue
-- ==== Proof.KernelResult.lean ====
/- The kernel's result over the extended reals, as a function of its arguments. -/
module

public import proofs.«01_k».proof.Proof.KernelRun
public import proofs.«01_k».proof.Proof.KernelValue

@[expose] public section

noncomputable section

namespace Cert.Proof.KernelResult

open Idealize.ShloMosaic Idealize.SL.Sem Cert.KernelIdeal Cert.KernelIdeal.Gen
open Idealize.ShloMosaic.TcCoe
open Cert.Proof.Block Cert.Proof.KernelRun Cert.Proof.KernelValue

/-- A tap's product with batch `b`'s block at column `l`, over the padded input: column `l` is the padded input's `l + 1`. -/
theorem product_eq (X : Input) (W : Weights) (b : Fin 16) (k : Fin 3) (x : Vec Ideal S1x256x4096 .f32)
    (hx : ∀ j : S1x256x4096.Idx, x j = X (ix3 b (j 1) (j 2))) (o : Fin 64) (l : Fin 4096) :
    product (tap W k) x o l = ∑ c : Fin 256, padded X b c (l.val + 1) * tap W k (ix2 o c) := by
  refine Finset.sum_congr rfl fun c _ => ?_
  have hl : 1 ≤ l.val + 1 ∧ l.val + 1 ≤ 4096 := ⟨by omega, by have := l.isLt; omega⟩
  rw [mul_comm, hx, padded, dif_pos hl]
  rfl

/-- At an even column `2 t` the kernel's response is the convolution at position `t`. -/
theorem response_eq (X : Input) (W : Weights) (b : Fin 16) (x : Vec Ideal S1x256x4096 .f32)
    (hx : ∀ j : S1x256x4096.Idx, x j = X (ix3 b (j 1) (j 2))) (t : Fin 2048) (l : Fin 4096) (hl : l.val = 2 * t.val) (o : Fin 64) :
    response x (tap W 1) (tap W 2) (tap W 0) l o = conv X W b t o := by
  have ht := t.isLt
  have h1 : product (tap W 1) x o l = part X W b t 1 o := by
    rw [product_eq X W b 1 x hx, hl]
    rfl
  have h2 : product (tap W 2) x o ⟨(l.val + 1) % 4096, Nat.mod_lt _ (by decide)⟩ = part X W b t 2 o := by
    rw [product_eq X W b 2 x hx]
    have e : (l.val + 1) % 4096 + 1 = 2 * t.val + 2 := by omega
    show ∑ c : Fin 256, padded X b c ((l.val + 1) % 4096 + 1) * _ = _
    rw [e]
    rfl
  have h0 : (if l.val = 0 then 0 else product (tap W 0) x o ⟨(l.val + 4095) % 4096, Nat.mod_lt _ (by decide)⟩)
      = part X W b t 0 o := by
    by_cases hz : l.val = 0
    · rw [if_pos hz]
      have e : 2 * t.val + ((0 : Fin 3) : ℕ) = 0 := by show 2 * t.val + 0 = 0; omega
      unfold part
      rw [e]
      refine (Finset.sum_eq_zero fun c _ => ?_).symm
      rw [padded, dif_neg (by omega), zero_mul]
    · rw [if_neg hz, product_eq X W b 0 x hx]
      have e : (l.val + 4095) % 4096 + 1 = 2 * t.val + 0 := by omega
      show ∑ c : Fin 256, padded X b c ((l.val + 4095) % 4096 + 1) * _ = _
      rw [e]
      rfl
  unfold response conv
  rw [h0, h1, h2, add_comm (part X W b t 1 o + _), ← add_assoc]

/-- The two payloads on batch `b`'s block: at position `t`, the first codebook row whose score with the encoding there is greatest. -/
theorem payloads (X : Input) (W : Weights) (CB : Codebook) (b : Fin 16) (t : Fin 2048) (x : Vec Ideal S1x256x4096 .f32)
    (w1 w2 w0 : Vec Ideal S64x256 .bf16) (cb : Vec Ideal S1024x64 .f32)
    (hx : ∀ j : S1x256x4096.Idx, x j = X (ix3 b (j 1) (j 2))) (h1 : w1 = tap W 1) (h2 : w2 = tap W 2) (h0 : w0 = tap W 0) (hcb : cb = CB) :
    ∃ k : Fin 1024, FirstMax (fun k => dot (unit (row CB k)) (unit (conv X W b t))) k
      ∧ k0_pay1 (evenRows (k0_pay2 (F := Ideal) x w1 w2 w0)) cb (ix3 0 0 t) = BitVec.ofNat 32 k.val := by
  subst h1 h2 h0 hcb
  obtain ⟨k, hk, e⟩ := indices_apply (evenRows (k0_pay2 (F := Ideal) x (tap W 1) (tap W 2) (tap W 0))) cb t
  refine ⟨k, ?_, e⟩
  have hd : (fun d : Fin 64 => (evenRows (F := Ideal) (k0_pay2 (F := Ideal) x (tap W 1) (tap W 2) (tap W 0)) (ix2 t d) : EReal)) = unit (conv X W b t) := by
    funext d
    refine (encodings_apply x (tap W 1) (tap W 2) (tap W 0) ⟨2 * t.val, by have := t.isLt; omega⟩ d).trans
      (congrArg (unit · d) (funext fun o => ?_))
    exact response_eq X W b x hx t _ rfl o
  rw [hd] at hk
  exact hk

variable (m : (ℓ : Loc nD τ sig) → Buf (Elt Ideal) ℓ)

/-- What the kernel leaves at batch `b` and position `t`: the first codebook row whose score with the encoding there is greatest. -/
theorem result (c : Dev nD) (b : Fin 16) (t : Fin 2048) :
    ∃ k : Fin 1024,
      FirstMax (fun k => dot (unit (row (m ((c : Thread nD τ).loc main_arg2)) k))
        (unit (conv (m ((c : Thread nD τ).loc main_arg0)) (m ((c : Thread nD τ).loc main_arg1)) b t))) k
      ∧ outsAt0 m c (point b) (ix3 0 0 t) = BitVec.ofNat 32 k.val := by
  obtain ⟨k, hk, e⟩ := payloads (m ((c : Thread nD τ).loc main_arg0)) (m ((c : Thread nD τ).loc main_arg1))
    (m ((c : Thread nD τ).loc main_arg2)) b t (iblk m c 0 (point b)) (iblk m c 2 (point b)) (iblk m c 3 (point b)) (iblk m c 1 (point b))
    (iblk m c 4 (point b)) (fun j => block_x m c b j) (block_tap1 m c (point b)) (block_tap2 m c (point b)) (block_tap0 m c (point b))
    (block_codebook m c (point b))
  exact ⟨k, hk, (congrFun (outs_eq m c (point b)) _).trans e⟩

end Cert.Proof.KernelResult
-- ==== Proof.Words.lean ====
/- The extended reals that the programs' constant words stand for. -/
module

public import proofs.«01_k».proof.Proof.Spec

@[expose] public section

noncomputable section

namespace Cert.Proof

open Idealize.ShloMosaic

/-- The word of minus infinity. -/
theorem word_bot : Ideal.ofBits .f32 0xFF800000#32 = ⊥ := by simp [Ideal.ofBits, Ideal.ieee]

/-- The word of plus infinity. -/
theorem word_top : Ideal.ofBits .f32 0x7F800000#32 = ⊤ := by simp [Ideal.ofBits, Ideal.ieee]

/-- The word of two. -/
theorem word_two : Ideal.ofBits .f32 0x40000000#32 = ((2 : ℝ) : EReal) := by
  simp [Ideal.ofBits, Ideal.ieee, -EReal.coe_mul]
  norm_num

/-- The least norm is a positive real. -/
theorem eps_real : ∃ r : ℝ, 0 < r ∧ eps = (r : EReal) := by
  refine ⟨9223372 * (2 ^ 63)⁻¹, by norm_num, ?_⟩
  simp [eps, Ideal.ofBits, Ideal.ieee, -EReal.coe_mul]

end Cert.Proof
-- ==== Proof.RefArgmax.lean ====
/- The reference's comparison: a fold over a row's pairs of entry and index, which ends at the first greatest entry. -/
module

public import proofs.«01_k».proof.Proof.RefTerm
public import proofs.«01_k».proof.Proof.Words
public import proofs.«01_k».proof.Proof.KernelArgmax

@[expose] public section

noncomputable section

namespace Cert.Proof.RefArgmax

open Idealize.ShloMosaic Cert.ReferenceIdeal Cert.ReferenceIdeal.Gen

/-- A value and a position, as the pair the comparison handles. -/
def enc (p : EReal × ℕ) : EReal × BitVec 32 := (p.1, BitVec.ofNat 32 p.2)

/-- `p` is at least as good as `q`: a greater value, or the same value no later. -/
def Beats (p q : EReal × ℕ) : Prop := q.1 < p.1 ∨ (q.1 = p.1 ∧ p.2 ≤ q.2)

/-- The comparison's signed order on positions below 1024 is that of the numbers. -/
theorem slt_iff (a b : ℕ) (ha : a < 1024) (hb : b < 1024) :
    IntOp.cmpi .slt (BitVec.ofNat 32 a) (BitVec.ofNat 32 b) = BitVec.ofBool (decide (a < b)) := by
  have e (n : ℕ) (hn : n < 1024) : (BitVec.ofNat 32 n).toInt = (n : ℤ) := by
    have h : (BitVec.ofNat 32 n).toNat = n := by rw [BitVec.toNat_ofNat]; omega
    rw [BitVec.toInt_eq_toNat_of_lt (by rw [h]; omega), h]
  show BitVec.ofBool (BitVec.slt _ _) = _
  rw [BitVec.slt, e a ha, e b hb]
  simp

/-- The comparison keeps its left pair if that is greater, or equal and earlier, and otherwise takes the right one. -/
theorem step (a b : EReal × ℕ) (ha : a.2 < 1024) (hb : b.2 < 1024) :
    reducer_argmax_f32_i32 (F := Ideal) (enc a) (enc b)
      = if b.1 < a.1 ∨ (a.1 = b.1 ∧ a.2 < b.2) then enc a else enc b := by
  unfold reducer_argmax_f32_i32
  dsimp only [enc]
  rw [slt_iff _ _ ha hb]
  simp only [Ideal.cmpf_def, Ideal.cmp]
  by_cases h1 : b.1 < a.1
  · simp [h1, h1.ne', IntOp.ori, IntOp.andi, Scalar.select]
  · by_cases h2 : a.1 = b.1
    · by_cases h3 : a.2 < b.2
      · simp [h2, h3, IntOp.ori, IntOp.andi, Scalar.select]
      · simp [h2, h3, IntOp.ori, IntOp.andi, Scalar.select]
    · simp [h1, h2, IntOp.ori, IntOp.andi, Scalar.select]

/-- The fold ends at one of its pairs that is at least as good as each of them. -/
theorem fold_best (L : List (EReal × ℕ)) : ∀ a : EReal × ℕ, a.2 < 1024 → (∀ p ∈ L, p.2 < 1024) →
    ∃ p ∈ a :: L, (L.map enc).foldl (reducer_argmax_f32_i32 (F := Ideal)) (enc a) = enc p ∧ ∀ q ∈ a :: L, Beats p q := by
  induction L with
  | nil =>
    intro a _ _
    refine ⟨a, List.mem_cons_self, rfl, fun q hq => ?_⟩
    rw [List.mem_singleton.1 hq]
    exact .inr ⟨rfl, le_rfl⟩
  | cons b L ih =>
    intro a ha hL
    have hb := hL b List.mem_cons_self
    have trans {p q r : EReal × ℕ} (h : Beats p q) (h' : Beats q r) : Beats p r := by
      rcases h with h | ⟨h, h2⟩ <;> rcases h' with h' | ⟨h', h2'⟩
      · exact .inl (h'.trans h)
      · exact .inl (h' ▸ h)
      · exact .inl (h ▸ h')
      · exact .inr ⟨h'.trans h, h2.trans h2'⟩
    rw [List.map_cons, List.foldl_cons, step a b ha hb]
    by_cases c : b.1 < a.1 ∨ (a.1 = b.1 ∧ a.2 < b.2)
    · rw [if_pos c]
      obtain ⟨p, hp, e, best⟩ := ih a ha fun q hq => hL q (List.mem_cons_of_mem _ hq)
      have hab : Beats a b := c.imp id fun h => ⟨h.1.symm, h.2.le⟩
      refine ⟨p, ?_, e, fun q hq => ?_⟩
      · rcases List.mem_cons.1 hp with rfl | hp
        · exact List.mem_cons_self
        · exact List.mem_cons_of_mem _ (List.mem_cons_of_mem _ hp)
      · rcases List.mem_cons.1 hq with rfl | hq
        · exact best _ List.mem_cons_self
        · rcases List.mem_cons.1 hq with rfl | hq
          · exact trans (best a List.mem_cons_self) hab
          · exact best _ (List.mem_cons_of_mem _ hq)
    · rw [if_neg c]
      obtain ⟨p, hp, e, best⟩ := ih b hb fun q hq => hL q (List.mem_cons_of_mem _ hq)
      have hba : Beats b a := by
        rw [not_or, not_lt, not_and, not_lt] at c
        rcases c.1.lt_or_eq with h | h
        · exact .inl h
        · exact .inr ⟨h, c.2 h⟩
      refine ⟨p, List.mem_cons_of_mem _ hp, e, fun q hq => ?_⟩
      rcases List.mem_cons.1 hq with rfl | hq
      · exact trans (best b List.mem_cons_self) hba
      · exact best _ hq

/-- An index of the scores lies over row `r` exactly when it is one of that row's. -/
theorem drop_iff (r : Fin 32768) (i : S32768x1024.Idx) :
    reducesTo_S32768x1024_S32768_d1.drop i = ix1 r ↔ i = ix2 r (i 1) := by
  have hv : (reducesTo_S32768x1024_S32768_d1.drop i 0).val = (i 0).val :=
    reducesTo_S32768x1024_S32768_d1.drop_apply_val_of_eq i 0 0
  constructor
  · intro e
    have e0 : (reducesTo_S32768x1024_S32768_d1.drop i 0).val = r.val := by rw [e]; rfl
    funext a
    match a with
    | ⟨0, _⟩ => exact Fin.ext (hv.symm.trans e0)
    | ⟨1, _⟩ => rfl
  · intro e
    funext a
    match a with
    | ⟨0, _⟩ =>
      refine Fin.ext (hv.trans ?_)
      rw [e]
      rfl

/-- The reference's index of row `r` is the first at which the row's scores are greatest. -/
theorem greatest_first (d : Vec Ideal S32768x1024 .f32) (r : Fin 32768) :
    ∃ k : Fin 1024, FirstMax (fun k => (d (ix2 r k) : EReal)) k
      ∧ (RefTerm.greatest (F := Ideal) d (ix1 r)).2 = BitVec.ofNat 32 k.val := by
  set f : Fin S32768x1024.numel → EReal × ℕ := fun n => (d (S32768x1024.rowMajor.symm n), (S32768x1024.rowMajor.symm n 1).val) with hf
  set N := (List.finRange S32768x1024.numel).filter fun n =>
    reducesTo_S32768x1024_S32768_d1.drop (S32768x1024.rowMajor.symm n) = ix1 r with hN
  have hL : ∀ p ∈ N.map f, p.2 < 1024 := by
    intro p hp
    obtain ⟨n, -, rfl⟩ := List.mem_map.1 hp
    exact (S32768x1024.rowMajor.symm n 1).isLt
  have hmem (k : Fin 1024) : ((d (ix2 r k) : EReal), k.val) ∈ N.map f := by
    refine List.mem_map.2 ⟨S32768x1024.rowMajor (ix2 r k), List.mem_filter.2 ⟨List.mem_finRange _, ?_⟩, ?_⟩
    · rw [Equiv.symm_apply_apply]
      exact decide_eq_true ((drop_iff r _).2 rfl)
    · rw [hf]
      dsimp only
      rw [Equiv.symm_apply_apply]
      rfl
  have hof (p : EReal × ℕ) (hp : p ∈ N.map f) : ∃ k : Fin 1024, p = ((d (ix2 r k) : EReal), k.val) := by
    obtain ⟨n, hn, rfl⟩ := List.mem_map.1 hp
    have e := (drop_iff r _).1 (of_decide_eq_true (List.mem_filter.1 hn).2)
    refine ⟨S32768x1024.rowMajor.symm n 1, ?_⟩
    exact Prod.ext (congrArg d e) rfl
  have hfold : RefTerm.greatest (F := Ideal) d (ix1 r)
      = ((N.map f).map enc).foldl (reducer_argmax_f32_i32 (F := Ideal)) (enc (⊥, 0)) := by
    unfold RefTerm.greatest
    rw [Ideal.argReduce_eq_reduce2, Host.reduce2_eq_foldl_fiber, Host.argReduceFiber, List.map_map, ← hN]
    have e0 : ((constant S_ .f32 0xFF800000#32 : FVec Ideal S_ .f32) (Shape.Idx.first h_S_), constantI S_ 32 0#32 (Shape.Idx.first h_S_))
        = enc (⊥, 0) := by
      refine Prod.ext ?_ rfl
      exact word_bot
    rw [e0]
    refine congrArg (fun l => List.foldl (reducer_argmax_f32_i32 (F := Ideal)) (enc (⊥, 0)) l) ?_
    refine List.map_congr_left fun n _ => Prod.ext rfl ?_
    simp only [pointwise]
    rfl
  obtain ⟨p, hp, e, best⟩ := fold_best (N.map f) (⊥, 0) (by decide) hL
  obtain ⟨k, rfl⟩ : ∃ k : Fin 1024, p = ((d (ix2 r k) : EReal), k.val) := by
    rcases List.mem_cons.1 hp with rfl | hp
    · refine ⟨0, Prod.ext ?_ rfl⟩
      rcases best _ (List.mem_cons_of_mem _ (hmem 0)) with h | h
      · exact absurd h not_lt_bot
      · exact h.1.symm
    · exact hof p hp
  refine ⟨k, ⟨fun j => ?_, fun j hj => ?_⟩, ?_⟩
  · rcases best _ (List.mem_cons_of_mem _ (hmem j)) with h | h
    · exact h.le
    · exact h.1.le
  · rcases best _ (List.mem_cons_of_mem _ (hmem j)) with h | h
    · exact h
    · exact absurd h.2 (not_le.2 hj)
  · rw [hfold, e]
    rfl

end Cert.Proof.RefArgmax
-- ==== Proof.RefValue.lean ====
/- The reference's steps over the extended reals, entry by entry: the convolution, the unit rows and the distances. -/
module

public import proofs.«01_k».proof.Proof.RefTerm
public import proofs.«01_k».proof.Proof.Spec

@[expose] public section

noncomputable section

namespace Cert.Proof.RefValue

open Idealize.ShloMosaic Cert.ReferenceIdeal Cert.ReferenceIdeal.Gen

/-- The padded input, entry by entry. -/
theorem pads_apply (x : Input) (b : Fin 16) (c : Fin 256) (j : Fin 4098) :
    RefTerm.pads (F := Ideal) x (ix3 b c j) = padded x b c j.val := by
  unfold RefTerm.pads
  pointwise
  unfold padded
  have e : (FloatOps.sitofp .f32 (0#32) : Ideal .f32) = 0 := by
    show ((((0#32 : BitVec 32).toInt : ℤ) : ℝ) : EReal) = 0
    simp
  by_cases h : 1 ≤ j.val ∧ j.val - 1 < 4096
  · rw [dif_pos h, dif_pos ⟨h.1, by omega⟩]
  · rw [dif_neg h, dif_neg (by omega), e]

/-- The first tap's part, entry by entry. -/
theorem part0_apply (x : Input) (w : Weights) (b : Fin 16) (o : Fin 64) (t : Fin 2048) :
    RefTerm.part0 (F := Ideal) (RefTerm.pads (F := Ideal) x) w (ix3 b o t) = part x w b t 0 o := by
  have e : shapeCast S64x256 (extractStridedSlice S64x256x1 ![0, 0, 0] w slices_S64x256x3_S64x256x1_0_0_0) shapeCasts_S64x256x1_S64x256
      = tap w 0 := tap_eq w 0 _ rfl _ _
  unfold RefTerm.part0
  rw [e]
  pointwise
  refine Finset.sum_congr rfl fun c _ => ?_
  rw [pads_apply]
  have h : (2 * t.val : ℕ) = 2 * t.val + (0 : Fin 3).val := rfl
  exact congrArg (fun n => padded x b c n * tap w 0 (ix2 o c)) h

/-- The second tap's part, entry by entry. -/
theorem part1_apply (x : Input) (w : Weights) (b : Fin 16) (o : Fin 64) (t : Fin 2048) :
    RefTerm.part1 (F := Ideal) (RefTerm.pads (F := Ideal) x) w (ix3 b o t) = part x w b t 1 o := by
  have e : shapeCast S64x256 (extractStridedSlice S64x256x1 ![0, 0, 1] w slices_S64x256x3_S64x256x1_0_0_1) shapeCasts_S64x256x1_S64x256
      = tap w 1 := tap_eq w 1 _ rfl _ _
  unfold RefTerm.part1
  rw [e]
  pointwise
  refine Finset.sum_congr rfl fun c _ => ?_
  rw [pads_apply]
  have h : (1 + 2 * t.val : ℕ) = 2 * t.val + (1 : Fin 3).val := by show 1 + 2 * t.val = 2 * t.val + 1; omega
  exact congrArg (fun n => padded x b c n * tap w 1 (ix2 o c)) h

/-- The third tap's part, entry by entry. -/
theorem part2_apply (x : Input) (w : Weights) (b : Fin 16) (o : Fin 64) (t : Fin 2048) :
    RefTerm.part2 (F := Ideal) (RefTerm.pads (F := Ideal) x) w (ix3 b o t) = part x w b t 2 o := by
  have e : shapeCast S64x256 (extractStridedSlice S64x256x1 ![0, 0, 2] w slices_S64x256x3_S64x256x1_0_0_2) shapeCasts_S64x256x1_S64x256
      = tap w 2 := tap_eq w 2 _ rfl _ _
  unfold RefTerm.part2
  rw [e]
  pointwise
  refine Finset.sum_congr rfl fun c _ => ?_
  rw [pads_apply]
  have h : (2 + 2 * t.val : ℕ) = 2 * t.val + (2 : Fin 3).val := by show 2 + 2 * t.val = 2 * t.val + 2; omega
  exact congrArg (fun n => padded x b c n * tap w 2 (ix2 o c)) h

/-- The row of batch `b` and position `t`. -/
def atRow (b : Fin 16) (t : Fin 2048) : Fin 32768 := ⟨b.val * 2048 + t.val, by have := b.isLt; have := t.isLt; omega⟩

/-- The responses, entry by entry: the convolution. -/
theorem responses_apply (x : Input) (w : Weights) (b : Fin 16) (t : Fin 2048) (o : Fin 64) :
    RefTerm.responses (F := Ideal) x w (ix2 (atRow b t) o) = conv x w b t o := by
  unfold RefTerm.responses
  refine (shapeCast_apply _ _ _ (ix3 b t o) ?_).trans ?_
  · rw [rowMajor_val3 _ 131072 64 rfl rfl, rowMajor_val2 _ 64 rfl]
    show b.val * 131072 + t.val * 64 + o.val = (b.val * 2048 + t.val) * 64 + o.val
    omega
  · pointwise
    rw [part0_apply, part1_apply, part2_apply]
    rfl

/-- The responses' unit rows, entry by entry. -/
theorem unitRows_apply (v : Vec Ideal S32768x64 .f32) (r : Fin 32768) (d : Fin 64) :
    RefTerm.unitRows (F := Ideal) v (ix2 r d) = Ideal.div (v (ix2 r d)) (nrm fun d => v (ix2 r d)) := by
  unfold RefTerm.unitRows
  pointwise
  rfl

/-- The codebook's unit rows, entry by entry. -/
theorem unitCodebook_apply (v : Codebook) (r : Fin 1024) (d : Fin 64) :
    RefTerm.unitCodebook (F := Ideal) v (ix2 r d) = Ideal.div (row v r d) (nrm (row v r)) := by
  unfold RefTerm.unitCodebook
  pointwise
  rfl

/-- The negated distances, entry by entry. -/
theorem negDist_apply (e : Vec Ideal S32768x64 .f32) (cb : Codebook) (r : Fin 32768) (k : Fin 1024) :
    RefTerm.negDist (F := Ideal) e cb (ix2 r k)
      = -((∑ d : Fin 64, e (ix2 r d) * e (ix2 r d)) - Ideal.ofBits .f32 0x40000000#32 * (∑ d : Fin 64, e (ix2 r d) * row cb k d)
          + ∑ d : Fin 64, row cb k d * row cb k d) := by
  unfold RefTerm.negDist
  pointwise
  rfl

end Cert.Proof.RefValue
-- ==== Proof.Norm.lean ====
/- Division by the norm: it always leaves reals, and a row whose norm is finite and not too small is left with norm one. -/
module

public import proofs.«01_k».proof.Proof.Words

@[expose] public section

noncomputable section

namespace Cert.Proof

open Idealize.ShloMosaic

/-- The norm is at least a positive real. -/
theorem nrm_pos (v : Fin 64 → EReal) : 0 < nrm v := by
  obtain ⟨r, hr, e⟩ := eps_real
  refine lt_of_lt_of_le ?_ (le_max_right _ _)
  rw [e]
  exact_mod_cast hr

/-- Multiplying by the reciprocal of the norm is dividing by the norm. -/
theorem unit_eq_div (v : Fin 64 → EReal) (d : Fin 64) : unit v d = Ideal.div (v d) (nrm v) := by
  have h := (nrm_pos v).ne'
  unfold unit Ideal.div
  rw [if_neg h, if_neg h, one_mul]

/-- A square is not negative. -/
theorem sq_nonneg' (x : EReal) : 0 ≤ x * x := by
  rcases le_total 0 x with h | h
  · exact mul_nonneg h h
  · exact EReal.mul_nonneg_iff.2 (.inr ⟨h, h⟩)

/-- Unless the norm is infinite, every entry is a real. -/
theorem entries_real (v : Fin 64 → EReal) (h : Ideal.sqrt (∑ d, v d * v d) ≠ ⊤) : ∃ u : Fin 64 → ℝ, ∀ d, v d = (u d : EReal) := by
  have hs (d : Fin 64) : v d * v d ≠ ⊤ := by
    intro e
    refine h ?_
    have : ∑ d, v d * v d = ⊤ := top_le_iff.1 (e ▸ Finset.single_le_sum (f := fun d => v d * v d) (fun d _ => sq_nonneg' (v d)) (Finset.mem_univ d))
    rw [this]
    rfl
  refine ⟨fun d => (v d).toReal, fun d => (EReal.coe_toReal ?_ ?_).symm⟩
  · intro e
    exact hs d (by rw [e]; rfl)
  · intro e
    exact hs d (by rw [e]; rfl)

/-- The inner product of reals is a real. -/
theorem dot_real (a b : Fin 64 → ℝ) : ∑ d, (a d : EReal) * (b d : EReal) = ((∑ d, a d * b d : ℝ) : EReal) := by
  refine Finset.induction_on (motive := fun s => ∑ d ∈ s, (a d : EReal) * (b d : EReal) = ((∑ d ∈ s, a d * b d : ℝ) : EReal)) Finset.univ ?_ ?_
  · simp
  · intro d s hd ih
    rw [Finset.sum_insert hd, Finset.sum_insert hd, ih, EReal.coe_add, EReal.coe_mul]

/-- A vector divided by its norm has real entries, whatever it was. -/
theorem unit_real (v : Fin 64 → EReal) : ∃ u : Fin 64 → ℝ, ∀ d, unit v d = (u d : EReal) := by
  obtain ⟨ε, hε, eε⟩ := eps_real
  by_cases h : Ideal.sqrt (∑ d, v d * v d) = ⊤
  · refine ⟨fun _ => 0, fun d => ?_⟩
    have hn : nrm v = ⊤ := by rw [nrm, h]; exact top_sup_eq _
    rw [unit, hn, Ideal.div, if_neg EReal.top_ne_zero, EReal.inv_top, mul_zero, mul_zero]
    rfl
  · obtain ⟨u, hu⟩ := entries_real v h
    have hn : nrm v = ((max (Real.sqrt (∑ d, u d * u d)) ε : ℝ) : EReal) := by
      have h0 : ¬ (∑ d, u d * u d) < 0 := not_lt.2 (Finset.sum_nonneg fun d _ => mul_self_nonneg _)
      simp only [nrm, hu, dot_real, eε]
      show max (if _ then _ else _) _ = _
      rw [if_neg h0]
      exact (EReal.coe_strictMono.monotone.map_max).symm
    refine ⟨fun d => u d * (1 / max (Real.sqrt (∑ d, u d * u d)) ε), fun d => ?_⟩
    rw [unit_eq_div, hn, Ideal.div_coe (lt_of_lt_of_le hε (le_max_right _ _)).ne', hu d, EReal.coe_mul]

/-- A row whose norm is finite and at least `eps`. -/
def Regular (v : Fin 64 → EReal) : Prop := eps ≤ Ideal.sqrt (∑ d, v d * v d) ∧ Ideal.sqrt (∑ d, v d * v d) < ⊤

/-- Such a row, divided by its norm, has reals whose squares add up to one. -/
theorem unit_regular (v : Fin 64 → EReal) (hv : Regular v) : ∃ u : Fin 64 → ℝ, (∀ d, unit v d = (u d : EReal)) ∧ ∑ d, u d * u d = 1 := by
  obtain ⟨ε, hε, eε⟩ := eps_real
  obtain ⟨u, hu⟩ := entries_real v hv.2.ne
  have h0 : 0 ≤ ∑ d, u d * u d := Finset.sum_nonneg fun d _ => mul_self_nonneg _
  have hs : Ideal.sqrt (∑ d, v d * v d) = ((Real.sqrt (∑ d, u d * u d) : ℝ) : EReal) := by
    simp only [hu, dot_real]
    exact if_neg (not_lt.2 h0)
  have hn : nrm v = ((Real.sqrt (∑ d, u d * u d) : ℝ) : EReal) := by
    rw [nrm, max_eq_left hv.1, hs]
  have hp : 0 < Real.sqrt (∑ d, u d * u d) := by
    have := hv.1
    rw [hs, eε] at this
    exact lt_of_lt_of_le hε (EReal.coe_le_coe_iff.1 this)
  refine ⟨fun d => u d * (1 / Real.sqrt (∑ d, u d * u d)), fun d => ?_, ?_⟩
  · rw [unit_eq_div, hn, Ideal.div_coe hp.ne', hu d, EReal.coe_mul]
  · have e (d : Fin 64) : u d * (1 / Real.sqrt (∑ d, u d * u d)) * (u d * (1 / Real.sqrt (∑ d, u d * u d)))
        = u d * u d * (1 / ∑ d, u d * u d) := by
      rw [mul_mul_mul_comm, div_mul_div_comm, one_mul, Real.mul_self_sqrt h0]
    simp only [e]
    rw [← Finset.sum_mul, mul_one_div, div_self (Real.sqrt_pos.1 hp).ne']

/-- The negated squared distance of an encoding to a row, as the reference writes it. -/
def negDist (e u : Fin 64 → EReal) : EReal :=
  -((∑ d, e d * e d) - Ideal.ofBits .f32 0x40000000#32 * (∑ d, e d * u d) + ∑ d, u d * u d)

/-- Over rows that are regular, the negated squared distances order the rows as their scores with the encoding do. -/
theorem dist_order (e : Fin 64 → EReal) (u v : Fin 64 → EReal) (hu : Regular u) (hv : Regular v) :
    dot (unit u) (unit e) ≤ dot (unit v) (unit e) ↔ negDist (unit e) (unit u) ≤ negDist (unit e) (unit v) := by
  obtain ⟨E, hE⟩ := unit_real e
  obtain ⟨U, hU, sU⟩ := unit_regular u hu
  obtain ⟨V, hV, sV⟩ := unit_regular v hv
  have cU : ∑ d, E d * U d = ∑ d, U d * E d := Finset.sum_congr rfl fun d _ => mul_comm _ _
  have cV : ∑ d, E d * V d = ∑ d, V d * E d := Finset.sum_congr rfl fun d _ => mul_comm _ _
  simp only [dot, negDist, hE, hU, hV, dot_real, sU, sV, word_two, cU, cV]
  simp only [← EReal.coe_mul, ← EReal.coe_sub, ← EReal.coe_add, ← EReal.coe_neg, EReal.coe_le_coe_iff]
  constructor <;> intro h <;> linarith

end Cert.Proof
-- ==== Proof.Equal.lean ====
/- Over a codebook of regular rows, the first greatest score and the first least distance are at the same row. -/
module

public import proofs.«01_k».proof.Proof.KernelResult
public import proofs.«01_k».proof.Proof.RefArgmax
public import proofs.«01_k».proof.Proof.RefValue
public import proofs.«01_k».proof.Proof.Norm

@[expose] public section

noncomputable section

namespace Cert.Proof.Equal

open Idealize.ShloMosaic Cert.ReferenceIdeal Cert.ReferenceIdeal.Gen
open Cert.Proof.RefValue

/-- The reference's entry for a position and a codebook row: the negated squared distance of the unit encoding to the unit row. -/
theorem scores_apply (x : Input) (w : Weights) (cb : Codebook) (b : Fin 16) (t : Fin 2048) (k : Fin 1024) :
    RefTerm.scores (F := Ideal) x w cb (ix2 (atRow b t) k) = negDist (unit (conv x w b t)) (unit (row cb k)) := by
  have he (d : Fin 64) : RefTerm.unitRows (F := Ideal) (RefTerm.responses (F := Ideal) x w) (ix2 (atRow b t) d) = unit (conv x w b t) d := by
    rw [unitRows_apply, unit_eq_div]
    simp only [responses_apply]
  have hu (d : Fin 64) : row (RefTerm.unitCodebook (F := Ideal) cb) k d = unit (row cb k) d :=
    (unitCodebook_apply cb k d).trans (unit_eq_div _ d).symm
  unfold RefTerm.scores
  rw [negDist_apply]
  simp only [he, hu]
  rfl

/-- Where the codebook's rows are regular, the first row of greatest score is what the reference returns. -/
theorem reference_value (x : Input) (w : Weights) (cb : Codebook) (hcb : ∀ k, Regular (row cb k)) (b : Fin 16) (t : Fin 2048) (k : Fin 1024)
    (hk : FirstMax (fun k => dot (unit (row cb k)) (unit (conv x w b t))) k) :
    (shapeCast S16x2048 (fun j => (RefTerm.greatest (RefTerm.scores (F := Ideal) x w cb) j).2) shapeCasts_S32768_S16x2048 : S16x2048.Idx → BitVec 32) (ix2 b t)
      = BitVec.ofNat 32 k.val := by
  obtain ⟨l, hl, e⟩ := RefArgmax.greatest_first (RefTerm.scores (F := Ideal) x w cb) (atRow b t)
  have hkl : k = l := hk.unique hl fun i j => by
    simp only [scores_apply]
    exact dist_order _ _ _ (hcb i) (hcb j)
  refine (shapeCast_apply _ _ _ (ix1 (atRow b t)) ?_).trans ?_
  · rw [rowMajor_val1, rowMajor_val2 _ 2048 rfl]
    rfl
  · rw [hkl]
    exact e

end Cert.Proof.Equal

end
-- ==== Proof.Precondition.lean ====
/- What the precondition says of the codebook: every row's norm is finite and at least the least norm that is divided by. -/
module

public import proofs.«01_k».proof.Proof.Gen.Pre_one_nearest
public import proofs.«01_k».proof.Proof.Norm
public import Idealize.ShloMosaic.Lib.ReduceAll

@[expose] public section

noncomputable section

namespace Cert.Proof.Precondition

open Idealize.ShloMosaic Cert.Pre_one_nearest Cert.Pre_one_nearest.Facts

attribute [local instance] Cert.Pre_one_nearest.Gen.facts

/-- The norms of the codebook's rows, as the precondition takes them. -/
def norms (cb : Codebook) : FVec Ideal S1024 .f32 :=
  Host.sqrt (Host.reduceAdd (mulf (F := Ideal) (φ := .f32) cb cb) (constant S_ .f32 0x00000000#32) reducesTo_S1024x64_S1024_d1 h_S_)

/-- Row `k`'s norm. -/
theorem norms_apply (cb : Codebook) (k : Fin 1024) : norms cb (ix1 k) = Ideal.sqrt (∑ d, row cb k d * row cb k d) := by
  unfold norms
  pointwise
  rfl

/-- The bit the precondition has for each row: its norm is at least the least norm and below infinity. -/
def bits (cb : Codebook) : IVec S1024 1 :=
  andi (cmpf .oge (norms cb) (broadcastInDim S1024 ![] bcast_S_S1024 (constant S_ .f32 0x2B8CBCCC#32)))
    (cmpf .olt (norms cb) (broadcastInDim S1024 ![] bcast_S_S1024 (constant S_ .f32 0x7F800000#32)))

/-- Row `k`'s bit is set only if the row is regular. -/
theorem bits_regular (cb : Codebook) (k : Fin 1024) (h : bits cb (ix1 k) = 1#1) : Regular (row cb k) := by
  obtain ⟨h1, h2⟩ := IntOp.andi_eq_one.1 h
  have e1 : BitVec.ofBool (decide (eps ≤ norms cb (ix1 k))) = 1#1 := h1
  have e2 : BitVec.ofBool (decide (norms cb (ix1 k) < Ideal.ofBits .f32 0x7F800000#32)) = 1#1 := h2
  rw [norms_apply] at e1 e2
  rw [word_top] at e2
  constructor
  · by_contra c
    rw [decide_eq_false c] at e1
    exact absurd e1 (by decide)
  · by_contra c
    rw [decide_eq_false c] at e2
    exact absurd e2 (by decide)

/-- The precondition's last bits are set only if every row's bit is. -/
theorem last_bits (cb : Codebook) (v : IVec S32768x1024 1) (h : fn_part2 (F := Ideal) cb v = fun _ => 1#1) (k : Fin 1024) :
    bits cb (ix1 k) = 1#1 := by
  have h0 := congrFun h (ix1 0)
  unfold fn_part2 at h0
  have h1 := (IntOp.andi_eq_one.1 h0).2
  have : Subsingleton S_.Idx := ⟨fun a b => funext fun i => i.elim0⟩
  exact Host.reduce_andi_all (bits cb) _ _ _ _ h1 (ix1 k)

/-- Under the precondition every row of the codebook is regular. -/
theorem regular (x : Input) (w : Weights) (cb : Codebook) (h : fn (F := Ideal) x w cb = fun _ => 1#1) (k : Fin 1024) :
    Regular (row cb k) := by
  unfold fn fn_part1 at h
  exact bits_regular cb k (last_bits cb _ h k)

end Cert.Proof.Precondition

end
-- ==== Proof.lean ====
/- The certificate's claims, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_one_nearest
public import proofs.«01_k».proof.Proof.RefRun
public import proofs.«01_k».proof.Proof.KernelRun
public import proofs.«01_k».proof.Proof.Equal
public import proofs.«01_k».proof.Proof.Precondition
public import Idealize.ShloMosaic.Lib.Claim
public import Idealize.ShloMosaic.Adequacy
public import Idealize.ShloMosaic.Init

@[expose] public section

noncomputable section

namespace Cert.Proof

open Idealize.ShloMosaic Idealize.SL.Sem

/-- Under the precondition the kernel and the reference, started on the same arguments, end with the same indices. -/
theorem same_indices : Cert.algebraic_KernelIdeal_ReferenceIdeal (hKernelIdeal := Cert.KernelIdeal.Gen.facts)
    (hReferenceIdeal := Cert.ReferenceIdeal.Gen.facts) (hPre_one_nearest := Cert.Pre_one_nearest.Gen.facts) := by
  intro m g m' g' hpre hagree
  refine ⟨fun c i => KernelIdeal.Gen.outsAt0 m c (KernelRun.point (i 0)) (ix3 0 0 (i 1)), ?_, ?_⟩
  · exact θ_run_mono (θ_run_and (KernelRun.run m g) (Cert.KernelIdeal.Gen.frame m g)) fun r h c => ⟨h.1 c, h.2.1 c⟩
  · refine θ_run_mono (θ_run_and (run_reference m' g') (frame_reference m' g' trivial)) fun r h c => ⟨?_, h.2.1 c⟩
    refine (h.1 c).trans ?_
    obtain ⟨e0, e1, e2⟩ := hagree c
    rw [e0, e1, e2]
    funext i
    obtain ⟨b, t, rfl⟩ : ∃ (b : Fin 16) (t : Fin 2048), i = ix2 b t := ⟨i 0, i 1, by funext a; match a with | ⟨0, _⟩ => rfl | ⟨1, _⟩ => rfl⟩
    obtain ⟨k, hk, e⟩ := KernelResult.result m c b t
    exact (Equal.reference_value _ _ _ (Precondition.regular _ _ _ (hpre c)) b t k hk).trans e.symm

/-- Every claim of the certificate. -/
theorem claim : Cert.Claim :=
  ⟨Cert.Kernel.Gen.facts, Cert.KernelIdeal.Gen.facts, Cert.ReferenceIdeal.Gen.facts, Cert.Pre_one_nearest.Gen.facts,
    fun m g _ => Cert.Kernel.Gen.frame m g, fun m g _ => Cert.Kernel.Gen.frame m g,
    fun m g _ => Cert.KernelIdeal.Gen.frame m g, frame_reference, fun m g _ => frame_reference m g trivial, trivial, same_indices⟩

end Cert.Proof

end
